-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x32x96 : Shape := ⟨4, ![8, 32, 32, 96]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S256x32x96 : Shape := ⟨3, ![256, 32, 96]⟩
abbrev S1x64 : Shape := ⟨2, ![1, 64]⟩
abbrev S1x32 : Shape := ⟨2, ![1, 32]⟩
abbrev S1x16 : Shape := ⟨2, ![1, 16]⟩
abbrev S1x1 : Shape := ⟨2, ![1, 1]⟩
abbrev S256x1 : Shape := ⟨2, ![256, 1]⟩
abbrev S8x32x96 : Shape := ⟨3, ![8, 32, 96]⟩
abbrev S8x1 : Shape := ⟨2, ![8, 1]⟩
abbrev S8x32x1x96 : Shape := ⟨4, ![8, 32, 1, 96]⟩
abbrev S8x1x32x96 : Shape := ⟨4, ![8, 1, 32, 96]⟩
abbrev S8x32x32x192 : Shape := ⟨4, ![8, 32, 32, 192]⟩
abbrev S8192x192 : Shape := ⟨2, ![8192, 192]⟩
abbrev S8192x64 : Shape := ⟨2, ![8192, 64]⟩
abbrev S8192 : Shape := ⟨1, ![8192]⟩
abbrev S8192x1 : Shape := ⟨2, ![8192, 1]⟩
abbrev S8192x32 : Shape := ⟨2, ![8192, 32]⟩
abbrev S8x32x32x32 : Shape := ⟨4, ![8, 32, 32, 32]⟩
abbrev S8x32x32 : Shape := ⟨3, ![8, 32, 32]⟩
abbrev S8x32x1x32 : Shape := ⟨4, ![8, 32, 1, 32]⟩
abbrev S8x1x32x32 : Shape := ⟨4, ![8, 1, 32, 32]⟩
abbrev S8x32x32x64 : Shape := ⟨4, ![8, 32, 32, 64]⟩
abbrev S256x32 : Shape := ⟨2, ![256, 32]⟩
abbrev S256x16 : Shape := ⟨2, ![256, 16]⟩
abbrev S8x32x16 : Shape := ⟨3, ![8, 32, 16]⟩
abbrev S8x16 : Shape := ⟨2, ![8, 16]⟩
abbrev S8x32x1 : Shape := ⟨3, ![8, 32, 1]⟩

abbrev nBuf : Space → Nat
  | .hbm => 46
  | .vmem => 30
  | .smem => 0
  | _ => 0

abbrev bufTy : (tb : Table) → Fin (tcTables nBuf tb) → BufTy
  | .hbm, ⟨0, _⟩ => ⟨S8x32x32x96, .f32⟩
  | .hbm, ⟨1, _⟩ => ⟨S192x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32x32, .f32⟩
  | .hbm, ⟨18, _⟩ => ⟨S32, .f32⟩
  | .hbm, ⟨19, _⟩ => ⟨S32x16, .f32⟩
  | .hbm, ⟨20, _⟩ => ⟨S16, .f32⟩
  | .hbm, ⟨21, _⟩ => ⟨S16x16, .f32⟩
  | .hbm, ⟨22, _⟩ => ⟨S16, .f32⟩
  | .hbm, ⟨23, _⟩ => ⟨S16x16, .f32⟩
  | .hbm, ⟨24, _⟩ => ⟨S16, .f32⟩
  | .hbm, ⟨25, _⟩ => ⟨S16x1, .f32⟩
  | .hbm, ⟨26, _⟩ => ⟨S1, .f32⟩
  | .hbm, ⟨27, _⟩ => ⟨S256x32x96, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S1x16, .f32⟩
  | .hbm, ⟨41, _⟩ => ⟨S1x16, .f32⟩
  | .hbm, ⟨42, _⟩ => ⟨S1x16, .f32⟩
  | .hbm, ⟨43, _⟩ => ⟨S1x1, .f32⟩
  | .hbm, ⟨44, _⟩ => ⟨S256x1, .f32⟩
  | .hbm, ⟨45, _⟩ => ⟨S8x32x1, .f32⟩
  | .local _ .vmem, ⟨0, _⟩ => ⟨S8x32x96, .f32⟩
  | .local _ .vmem, ⟨1, _⟩ => ⟨S8x32x96, .f32⟩
  | .local _ .vmem, ⟨2, _⟩ => ⟨S192x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S64x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S64x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S32x32, .f32⟩
  | .local _ .vmem, ⟨19, _⟩ => ⟨S1x32, .f32⟩
  | .local _ .vmem, ⟨20, _⟩ => ⟨S32x16, .f32⟩
  | .local _ .vmem, ⟨21, _⟩ => ⟨S1x16, .f32⟩
  | .local _ .vmem, ⟨22, _⟩ => ⟨S16x16, .f32⟩
  | .local _ .vmem, ⟨23, _⟩ => ⟨S1x16, .f32⟩
  | .local _ .vmem, ⟨24, _⟩ => ⟨S16x16, .f32⟩
  | .local _ .vmem, ⟨25, _⟩ => ⟨S1x16, .f32⟩
  | .local _ .vmem, ⟨26, _⟩ => ⟨S16x1, .f32⟩
  | .local _ .vmem, ⟨27, _⟩ => ⟨S1x1, .f32⟩
  | .local _ .vmem, ⟨28, _⟩ => ⟨S8x1, .f32⟩
  | .local _ .vmem, ⟨29, _⟩ => ⟨S8x1, .f32⟩
  | _, _ => ⟨S8x32x32x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x16 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S16x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S16x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S8x1 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ReferenceIdeal.lean ====
abbrev S8x32x32x96 : Shape := ⟨4, ![8, 32, 32, 96]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S256x32x96 : Shape := ⟨3, ![256, 32, 96]⟩
abbrev S256x32x1x96 : Shape := ⟨4, ![256, 32, 1, 96]⟩
abbrev S256x32x32x96 : Shape := ⟨4, ![256, 32, 32, 96]⟩
abbrev S256x1x32x96 : Shape := ⟨4, ![256, 1, 32, 96]⟩
abbrev S256x32x32x192 : Shape := ⟨4, ![256, 32, 32, 192]⟩
abbrev S256x32x32x64 : Shape := ⟨4, ![256, 32, 32, 64]⟩
abbrev S1x1x1x64 : Shape := ⟨4, ![1, 1, 1, 64]⟩
abbrev S_ : Shape := ⟨0, ![]⟩
abbrev S256x32x32 : Shape := ⟨3, ![256, 32, 32]⟩
abbrev S256x32x32x1 : Shape := ⟨4, ![256, 32, 32, 1]⟩
abbrev S256x32x32x32 : Shape := ⟨4, ![256, 32, 32, 32]⟩
abbrev S1x1x1x32 : Shape := ⟨4, ![1, 1, 1, 32]⟩
abbrev S256x32x1x32 : Shape := ⟨4, ![256, 32, 1, 32]⟩
abbrev S256x1x32x32 : Shape := ⟨4, ![256, 1, 32, 32]⟩
abbrev S256x32x16 : Shape := ⟨3, ![256, 32, 16]⟩
abbrev S1x1x16 : Shape := ⟨3, ![1, 1, 16]⟩
abbrev S256x16 : Shape := ⟨2, ![256, 16]⟩
abbrev S1x16 : Shape := ⟨2, ![1, 16]⟩
abbrev S256x1 : Shape := ⟨2, ![256, 1]⟩
abbrev S1x1 : Shape := ⟨2, ![1, 1]⟩
abbrev S8x32x1 : Shape := ⟨3, ![8, 32, 1]⟩

abbrev nBuf : Space → Nat
  | .hbm => 263
  | .vmem => 0
  | .smem => 0
  | _ => 0

abbrev hbmTy0_0 (i : Nat) : BufTy := match i % 128 with
  | 0 => ⟨S8x32x32x96, .f32⟩
  | 1 => ⟨S192x64, .f32⟩
  | 2 => ⟨S64, .f32⟩
  | 3 => ⟨S64, .f32⟩
  | 4 => ⟨S64, .f32⟩
  | 5 => ⟨S64x32, .f32⟩
  | 6 => ⟨S32, .f32⟩
  | 7 => ⟨S64x32, .f32⟩
  | 8 => ⟨S32, .f32⟩
  | 9 => ⟨S32, .f32⟩
  | 10 => ⟨S32, .f32⟩
  | 11 => ⟨S32x32, .f32⟩
  | 12 => ⟨S32, .f32⟩
  | 13 => ⟨S64x32, .f32⟩
  | 14 => ⟨S32, .f32⟩
  | 15 => ⟨S32, .f32⟩
  | 16 => ⟨S32, .f32⟩
  | 17 => ⟨S32x32, .f32⟩
  | 18 => ⟨S32, .f32⟩
  | 19 => ⟨S32x16, .f32⟩
  | 20 => ⟨S16, .f32⟩
  | 21 => ⟨S16x16, .f32⟩
  | 22 => ⟨S16, .f32⟩
  | 23 => ⟨S16x16, .f32⟩
  | 24 => ⟨S16, .f32⟩
  | 25 => ⟨S16x1, .f32⟩
  | 26 => ⟨S1, .f32⟩
  | 27 => ⟨S256x32x96, .f32⟩
  | 28 => ⟨S256x32x1x96, .f32⟩
  | 29 => ⟨S256x32x32x96, .f32⟩
  | 30 => ⟨S256x1x32x96, .f32⟩
  | 31 => ⟨S256x32x32x96, .f32⟩
  | 32 => ⟨S256x32x32x96, .f32⟩
  | 33 => ⟨S256x32x32x192, .f32⟩
  | 34 => ⟨S256x32x32x64, .f32⟩
  | 35 => ⟨S1x1x1x64, .f32⟩
  | 36 => ⟨S256x32x32x64, .f32⟩
  | 37 => ⟨S256x32x32x64, .f32⟩
  | 38 => ⟨S_, .f32⟩
  | 39 => ⟨S256x32x32, .f32⟩
  | 40 => ⟨S256x32x32x1, .f32⟩
  | 41 => ⟨S_, .f32⟩
  | 42 => ⟨S256x32x32x1, .f32⟩
  | 43 => ⟨S256x32x32x1, .f32⟩
  | 44 => ⟨S_, .i32⟩
  | 45 => ⟨S_, .f32⟩
  | 46 => ⟨S256x32x32, .f32⟩
  | 47 => ⟨S256x32x32x1, .f32⟩
  | 48 => ⟨S_, .f32⟩
  | 49 => ⟨S256x32x32x1, .f32⟩
  | 50 => ⟨S256x32x32x1, .f32⟩
  | 51 => ⟨S256x32x32x64, .f32⟩
  | 52 => ⟨S256x32x32x64, .f32⟩
  | 53 => ⟨S256x32x32x64, .f32⟩
  | 54 => ⟨S_, .f32⟩
  | 55 => ⟨S_, .f32⟩
  | 56 => ⟨S_, .f32⟩
  | 57 => ⟨S_, .f32⟩
  | 58 => ⟨S256x32x32, .f32⟩
  | 59 => ⟨S256x32x32x1, .f32⟩
  | 60 => ⟨S256x32x32x1, .f32⟩
  | 61 => ⟨S256x32x32x1, .f32⟩
  | 62 => ⟨S_, .f32⟩
  | 63 => ⟨S_, .i1⟩
  | 64 => ⟨S_, .f32⟩
  | 65 => ⟨S_, .f32⟩
  | 66 => ⟨S256x32x32x1, .f32⟩
  | 67 => ⟨S256x32x32x1, .f32⟩
  | 68 => ⟨S256x32x32x64, .f32⟩
  | 69 => ⟨S256x32x32x64, .f32⟩
  | 70 => ⟨S_, .f32⟩
  | 71 => ⟨S256x32x32x1, .f32⟩
  | 72 => ⟨S256x32x32x1, .f32⟩
  | 73 => ⟨S256x32x32x1, .f32⟩
  | 74 => ⟨S256x32x32x64, .f32⟩
  | 75 => ⟨S256x32x32x64, .f32⟩
  | 76 => ⟨S1x1x1x64, .f32⟩
  | 77 => ⟨S256x32x32x64, .f32⟩
  | 78 => ⟨S256x32x32x64, .f32⟩
  | 79 => ⟨S1x1x1x64, .f32⟩
  | 80 => ⟨S256x32x32x64, .f32⟩
  | 81 => ⟨S256x32x32x64, .f32⟩
  | 82 => ⟨S_, .f32⟩
  | 83 => ⟨S256x32x32x64, .f32⟩
  | 84 => ⟨S256x32x32x64, .f32⟩
  | 85 => ⟨S256x32x32x32, .f32⟩
  | 86 => ⟨S1x1x1x32, .f32⟩
  | 87 => ⟨S256x32x32x32, .f32⟩
  | 88 => ⟨S256x32x32x32, .f32⟩
  | 89 => ⟨S_, .f32⟩
  | 90 => ⟨S256x32x32, .f32⟩
  | 91 => ⟨S_, .f32⟩
  | 92 => ⟨S256x32x32, .f32⟩
  | 93 => ⟨S256x32x32, .f32⟩
  | 94 => ⟨S_, .f32⟩
  | 95 => ⟨S256x32x32, .f32⟩
  | 96 => ⟨S256x32x32, .f32⟩
  | 97 => ⟨S256x32x1x32, .f32⟩
  | 98 => ⟨S256x32x32x32, .f32⟩
  | 99 => ⟨S256x1x32x32, .f32⟩
  | 100 => ⟨S256x32x32x32, .f32⟩
  | 101 => ⟨S256x32x32x32, .f32⟩
  | 102 => ⟨S256x32x32x64, .f32⟩
  | 103 => ⟨S256x32x32x32, .f32⟩
  | 104 => ⟨S1x1x1x32, .f32⟩
  | 105 => ⟨S256x32x32x32, .f32⟩
  | 106 => ⟨S256x32x32x32, .f32⟩
  | 107 => ⟨S_, .f32⟩
  | 108 => ⟨S256x32x32, .f32⟩
  | 109 => ⟨S256x32x32x1, .f32⟩
  | 110 => ⟨S_, .f32⟩
  | 111 => ⟨S256x32x32x1, .f32⟩
  | 112 => ⟨S256x32x32x1, .f32⟩
  | 113 => ⟨S_, .i32⟩
  | 114 => ⟨S_, .f32⟩
  | 115 => ⟨S256x32x32, .f32⟩
  | 116 => ⟨S256x32x32x1, .f32⟩
  | 117 => ⟨S_, .f32⟩
  | 118 => ⟨S256x32x32x1, .f32⟩
  | 119 => ⟨S256x32x32x1, .f32⟩
  | 120 => ⟨S256x32x32x32, .f32⟩
  | 121 => ⟨S256x32x32x32, .f32⟩
  | 122 => ⟨S256x32x32x32, .f32⟩
  | 123 => ⟨S_, .f32⟩
  | 124 => ⟨S_, .f32⟩
  | 125 => ⟨S_, .f32⟩
  | 126 => ⟨S_, .f32⟩
  | 127 => ⟨S256x32x32, .f32⟩
  | _ => ⟨S8x32x32x96, .f32⟩

abbrev hbmTy0_1 (i : Nat) : BufTy := match i % 128 with
  | 0 => ⟨S256x32x32x1, .f32⟩
  | 1 => ⟨S256x32x32x1, .f32⟩
  | 2 => ⟨S256x32x32x1, .f32⟩
  | 3 => ⟨S_, .f32⟩
  | 4 => ⟨S_, .i1⟩
  | 5 => ⟨S_, .f32⟩
  | 6 => ⟨S_, .f32⟩
  | 7 => ⟨S256x32x32x1, .f32⟩
  | 8 => ⟨S256x32x32x1, .f32⟩
  | 9 => ⟨S256x32x32x32, .f32⟩
  | 10 => ⟨S256x32x32x32, .f32⟩
  | 11 => ⟨S_, .f32⟩
  | 12 => ⟨S256x32x32x1, .f32⟩
  | 13 => ⟨S256x32x32x1, .f32⟩
  | 14 => ⟨S256x32x32x1, .f32⟩
  | 15 => ⟨S256x32x32x32, .f32⟩
  | 16 => ⟨S256x32x32x32, .f32⟩
  | 17 => ⟨S1x1x1x32, .f32⟩
  | 18 => ⟨S256x32x32x32, .f32⟩
  | 19 => ⟨S256x32x32x32, .f32⟩
  | 20 => ⟨S1x1x1x32, .f32⟩
  | 21 => ⟨S256x32x32x32, .f32⟩
  | 22 => ⟨S256x32x32x32, .f32⟩
  | 23 => ⟨S_, .f32⟩
  | 24 => ⟨S256x32x32x32, .f32⟩
  | 25 => ⟨S256x32x32x32, .f32⟩
  | 26 => ⟨S256x32x32x32, .f32⟩
  | 27 => ⟨S1x1x1x32, .f32⟩
  | 28 => ⟨S256x32x32x32, .f32⟩
  | 29 => ⟨S256x32x32x32, .f32⟩
  | 30 => ⟨S_, .f32⟩
  | 31 => ⟨S256x32x32, .f32⟩
  | 32 => ⟨S_, .f32⟩
  | 33 => ⟨S256x32x32, .f32⟩
  | 34 => ⟨S256x32x32, .f32⟩
  | 35 => ⟨S_, .f32⟩
  | 36 => ⟨S256x32x32, .f32⟩
  | 37 => ⟨S256x32x32, .f32⟩
  | 38 => ⟨S256x32x1x32, .f32⟩
  | 39 => ⟨S256x32x32x32, .f32⟩
  | 40 => ⟨S256x1x32x32, .f32⟩
  | 41 => ⟨S256x32x32x32, .f32⟩
  | 42 => ⟨S256x32x32x32, .f32⟩
  | 43 => ⟨S256x32x32x64, .f32⟩
  | 44 => ⟨S256x32x32x32, .f32⟩
  | 45 => ⟨S1x1x1x32, .f32⟩
  | 46 => ⟨S256x32x32x32, .f32⟩
  | 47 => ⟨S256x32x32x32, .f32⟩
  | 48 => ⟨S_, .f32⟩
  | 49 => ⟨S256x32x32, .f32⟩
  | 50 => ⟨S256x32x32x1, .f32⟩
  | 51 => ⟨S_, .f32⟩
  | 52 => ⟨S256x32x32x1, .f32⟩
  | 53 => ⟨S256x32x32x1, .f32⟩
  | 54 => ⟨S_, .i32⟩
  | 55 => ⟨S_, .f32⟩
  | 56 => ⟨S256x32x32, .f32⟩
  | 57 => ⟨S256x32x32x1, .f32⟩
  | 58 => ⟨S_, .f32⟩
  | 59 => ⟨S256x32x32x1, .f32⟩
  | 60 => ⟨S256x32x32x1, .f32⟩
  | 61 => ⟨S256x32x32x32, .f32⟩
  | 62 => ⟨S256x32x32x32, .f32⟩
  | 63 => ⟨S256x32x32x32, .f32⟩
  | 64 => ⟨S_, .f32⟩
  | 65 => ⟨S_, .f32⟩
  | 66 => ⟨S_, .f32⟩
  | 67 => ⟨S_, .f32⟩
  | 68 => ⟨S256x32x32, .f32⟩
  | 69 => ⟨S256x32x32x1, .f32⟩
  | 70 => ⟨S256x32x32x1, .f32⟩
  | 71 => ⟨S256x32x32x1, .f32⟩
  | 72 => ⟨S_, .f32⟩
  | 73 => ⟨S_, .i1⟩
  | 74 => ⟨S_, .f32⟩
  | 75 => ⟨S_, .f32⟩
  | 76 => ⟨S256x32x32x1, .f32⟩
  | 77 => ⟨S256x32x32x1, .f32⟩
  | 78 => ⟨S256x32x32x32, .f32⟩
  | 79 => ⟨S256x32x32x32, .f32⟩
  | 80 => ⟨S_, .f32⟩
  | 81 => ⟨S256x32x32x1, .f32⟩
  | 82 => ⟨S256x32x32x1, .f32⟩
  | 83 => ⟨S256x32x32x1, .f32⟩
  | 84 => ⟨S256x32x32x32, .f32⟩
  | 85 => ⟨S256x32x32x32, .f32⟩
  | 86 => ⟨S1x1x1x32, .f32⟩
  | 87 => ⟨S256x32x32x32, .f32⟩
  | 88 => ⟨S256x32x32x32, .f32⟩
  | 89 => ⟨S1x1x1x32, .f32⟩
  | 90 => ⟨S256x32x32x32, .f32⟩
  | 91 => ⟨S256x32x32x32, .f32⟩
  | 92 => ⟨S_, .f32⟩
  | 93 => ⟨S256x32x32x32, .f32⟩
  | 94 => ⟨S256x32x32x32, .f32⟩
  | 95 => ⟨S256x32x32x32, .f32⟩
  | 96 => ⟨S1x1x1x32, .f32⟩
  | 97 => ⟨S256x32x32x32, .f32⟩
  | 98 => ⟨S256x32x32x32, .f32⟩
  | 99 => ⟨S_, .f32⟩
  | 100 => ⟨S256x32x32, .f32⟩
  | 101 => ⟨S_, .f32⟩
  | 102 => ⟨S256x32x32, .f32⟩
  | 103 => ⟨S256x32x32, .f32⟩
  | 104 => ⟨S256x32x16, .f32⟩
  | 105 => ⟨S1x1x16, .f32⟩
  | 106 => ⟨S256x32x16, .f32⟩
  | 107 => ⟨S256x32x16, .f32⟩
  | 108 => ⟨S_, .f32⟩
  | 109 => ⟨S256x32x16, .f32⟩
  | 110 => ⟨S256x32x16, .f32⟩
  | 111 => ⟨S256x32x16, .f32⟩
  | 112 => ⟨S1x1x16, .f32⟩
  | 113 => ⟨S256x32x16, .f32⟩
  | 114 => ⟨S256x32x16, .f32⟩
  | 115 => ⟨S_, .f32⟩
  | 116 => ⟨S256x32x16, .f32⟩
  | 117 => ⟨S256x32x16, .f32⟩
  | 118 => ⟨S_, .f32⟩
  | 119 => ⟨S256x16, .f32⟩
  | 120 => ⟨S_, .f32⟩
  | 121 => ⟨S256x16, .f32⟩
  | 122 => ⟨S256x16, .f32⟩
  | 123 => ⟨S256x16, .f32⟩
  | 124 => ⟨S1x16, .f32⟩
  | 125 => ⟨S256x16, .f32⟩
  | 126 => ⟨S256x16, .f32⟩
  | 127 => ⟨S_, .f32⟩
  | _ => ⟨S8x32x32x96, .f32⟩

abbrev hbmTy0_2 (i : Nat) : BufTy := match i % 128 with
  | 0 => ⟨S256x16, .f32⟩
  | 1 => ⟨S256x16, .f32⟩
  | 2 => ⟨S256x1, .f32⟩
  | 3 => ⟨S1x1, .f32⟩
  | 4 => ⟨S256x1, .f32⟩
  | 5 => ⟨S256x1, .f32⟩
  | 6 => ⟨S8x32x1, .f32⟩
  | _ => ⟨S8x32x32x96, .f32⟩

abbrev hbmTy (i : Nat) : BufTy := match i / 128 with
  | 0 => hbmTy0_0 i
  | 1 => hbmTy0_1 i
  | 2 => hbmTy0_2 i
  | _ => ⟨S8x32x32x96, .f32⟩

abbrev bufTy : (tb : Table) → Fin (tcTables nBuf tb) → BufTy
  | .hbm, ⟨i, _⟩ => hbmTy i
  | _, _ => ⟨S8x32x32x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_cst_0 : Ref sig .tc := ⟨.hbm, 41, rfl⟩
abbrev main_v13 : Ref sig .tc := ⟨.hbm, 42, rfl⟩
abbrev main_v14 : Ref sig .tc := ⟨.hbm, 43, rfl⟩
abbrev main_c : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_cst_3 : Ref sig .tc := ⟨.hbm, 62, rfl⟩
abbrev main_call0_v13 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_1 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_call1_cst : Ref sig .tc := ⟨.hbm, 82, rfl⟩
abbrev main_call1_v0 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_2 : Ref sig .tc := ⟨.hbm, 89, rfl⟩
abbrev main_v34 : Ref sig .tc := ⟨.hbm, 90, rfl⟩
abbrev main_cst_3 : Ref sig .tc := ⟨.hbm, 91, rfl⟩
abbrev main_v35 : Ref sig .tc := ⟨.hbm, 92, rfl⟩
abbrev main_v36 : Ref sig .tc := ⟨.hbm, 93, rfl⟩
abbrev main_call2_cst : Ref sig .tc := ⟨.hbm, 94, rfl⟩
abbrev main_call2_v0 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_4 : Ref sig .tc := ⟨.hbm, 107, rfl⟩
abbrev main_v48 : Ref sig .tc := ⟨.hbm, 108, rfl⟩
abbrev main_v49 : Ref sig .tc := ⟨.hbm, 109, rfl⟩
abbrev main_cst_5 : Ref sig .tc := ⟨.hbm, 110, rfl⟩
abbrev main_v50 : Ref sig .tc := ⟨.hbm, 111, rfl⟩
abbrev main_v51 : Ref sig .tc := ⟨.hbm, 112, rfl⟩
abbrev main_c_6 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_cst_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_cst_1 : Ref sig .tc := ⟨.hbm, 124, rfl⟩
abbrev main_call3_v8 : Ref sig .tc := ⟨.hbm, 125, rfl⟩
abbrev main_call3_cst_2 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_v12 : Ref sig .tc := ⟨.hbm, 130, rfl⟩
abbrev main_call3_cst_3 : Ref sig .tc := ⟨.hbm, 131, rfl⟩
abbrev main_call3_v13 : Ref sig .tc := ⟨.hbm, 132, rfl⟩
abbrev main_call3_cst_4 : Ref sig .tc := ⟨.hbm, 133, rfl⟩
abbrev main_call3_call0_v0 : Ref sig .tc := ⟨.hbm, 134, rfl⟩
abbrev main_call3_call0_v1 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_cst_7 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_call4_cst : Ref sig .tc := ⟨.hbm, 151, rfl⟩
abbrev main_call4_v0 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_cst_8 : Ref sig .tc := ⟨.hbm, 158, rfl⟩
abbrev main_v71 : Ref sig .tc := ⟨.hbm, 159, rfl⟩
abbrev main_cst_9 : Ref sig .tc := ⟨.hbm, 160, rfl⟩
abbrev main_v72 : Ref sig .tc := ⟨.hbm, 161, rfl⟩
abbrev main_v73 : Ref sig .tc := ⟨.hbm, 162, rfl⟩
abbrev main_call5_cst : Ref sig .tc := ⟨.hbm, 163, rfl⟩
abbrev main_call5_v0 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_cst_10 : Ref sig .tc := ⟨.hbm, 176, rfl⟩
abbrev main_v85 : Ref sig .tc := ⟨.hbm, 177, rfl⟩
abbrev main_v86 : Ref sig .tc := ⟨.hbm, 178, rfl⟩
abbrev main_cst_11 : Ref sig .tc := ⟨.hbm, 179, rfl⟩
abbrev main_v87 : Ref sig .tc := ⟨.hbm, 180, rfl⟩
abbrev main_v88 : Ref sig .tc := ⟨.hbm, 181, rfl⟩
abbrev main_c_12 : Ref sig .tc := ⟨.hbm, 182, rfl⟩
abbrev main_call6_cst : Ref sig .tc := ⟨.hbm, 183, rfl⟩
abbrev main_call6_v0 : Ref sig .tc := ⟨.hbm, 184, rfl⟩
abbrev main_call6_v1 : Ref sig .tc := ⟨.hbm, 185, rfl⟩
abbrev main_call6_cst_0 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_v6 : Ref sig .tc := ⟨.hbm, 191, rfl⟩
abbrev main_call6_v7 : Ref sig .tc := ⟨.hbm, 192, rfl⟩
abbrev main_call6_cst_1 : Ref sig .tc := ⟨.hbm, 193, rfl⟩
abbrev main_call6_v8 : Ref sig .tc := ⟨.hbm, 194, rfl⟩
abbrev main_call6_cst_2 : Ref sig .tc := ⟨.hbm, 195, rfl⟩
abbrev main_call6_v9 : Ref sig .tc := ⟨.hbm, 196, rfl⟩
abbrev main_call6_v10 : Ref sig .tc := ⟨.hbm, 197, rfl⟩
abbrev main_call6_v11 : Ref sig .tc := ⟨.hbm, 198, rfl⟩
abbrev main_call6_v12 : Ref sig .tc := ⟨.hbm, 199, rfl⟩
abbrev main_call6_cst_3 : Ref sig .tc := ⟨.hbm, 200, rfl⟩
abbrev main_call6_v13 : Ref sig .tc := ⟨.hbm, 201, rfl⟩
abbrev main_call6_cst_4 : Ref sig .tc := ⟨.hbm, 202, rfl⟩
abbrev main_call6_call0_v0 : Ref sig .tc := ⟨.hbm, 203, rfl⟩
abbrev main_call6_call0_v1 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_cst_13 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_call7_cst : Ref sig .tc := ⟨.hbm, 220, rfl⟩
abbrev main_call7_v0 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_cst_14 : Ref sig .tc := ⟨.hbm, 227, rfl⟩
abbrev main_v108 : Ref sig .tc := ⟨.hbm, 228, rfl⟩
abbrev main_cst_15 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_call8_cst : Ref sig .tc := ⟨.hbm, 236, rfl⟩
abbrev main_call8_v0 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_call9_cst : Ref sig .tc := ⟨.hbm, 243, rfl⟩
abbrev main_call9_v0 : Ref sig .tc := ⟨.hbm, 244, rfl⟩
abbrev main_v120 : Ref sig .tc := ⟨.hbm, 245, rfl⟩
abbrev main_cst_16 : Ref sig .tc := ⟨.hbm, 246, rfl⟩
abbrev main_v121 : Ref sig .tc := ⟨.hbm, 247, rfl⟩
abbrev main_cst_17 : Ref sig .tc := ⟨.hbm, 248, rfl⟩
abbrev main_v122 : Ref sig .tc := ⟨.hbm, 249, rfl⟩
abbrev main_v123 : Ref sig .tc := ⟨.hbm, 250, rfl⟩
abbrev main_v124 : Ref sig .tc := ⟨.hbm, 251, rfl⟩
abbrev main_v125 : Ref sig .tc := ⟨.hbm, 252, rfl⟩
abbrev main_v126 : Ref sig .tc := ⟨.hbm, 253, rfl⟩
abbrev main_v127 : Ref sig .tc := ⟨.hbm, 254, rfl⟩
abbrev main_call10_cst : Ref sig .tc := ⟨.hbm, 255, rfl⟩
abbrev main_call10_v0 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩

abbrev nD : Nat := 1
abbrev τ : Topo := Topo.v7x

variable {F : FTy → Type} [FloatOps F]
-- ==== Proof.Spec.lean ====
/- The network in plain mathematics over the extended reals, one graph of 32 nodes at a time.

   A graph is a function `x : Fin 32 → Fin d → EReal` (node, feature).  Everything below is finite sums and scalar
   operations; the kernel's blocks and the reference's arrays are each read down to these functions. -/
module

public import Idealize.ShloMosaic.Lib.Pointwise

@[expose] public section

noncomputable section

namespace Cert.Spec

open Idealize.ShloMosaic

/-- The number 64 as the programs write it. -/
abbrev c64 : EReal := Ideal.ofBits .f32 0x42800000#32

/-- The number 32 as the programs write it. -/
abbrev c32 : EReal := Ideal.ofBits .f32 0x42000000#32

/-- The small number added under the square root. -/
abbrev eps : EReal := Ideal.ofBits .f32 0x3727C5AC#32

/-- The parameters of the network: three edge convolutions and the two small heads. -/
structure Params where
  W1a : Fin 192 → Fin 64 → EReal
  b1a : Fin 64 → EReal
  g1 : Fin 64 → EReal
  t1 : Fin 64 → EReal
  W1b : Fin 64 → Fin 32 → EReal
  b1b : Fin 32 → EReal
  W2a : Fin 64 → Fin 32 → EReal
  b2a : Fin 32 → EReal
  g2 : Fin 32 → EReal
  t2 : Fin 32 → EReal
  W2b : Fin 32 → Fin 32 → EReal
  b2b : Fin 32 → EReal
  W3a : Fin 64 → Fin 32 → EReal
  b3a : Fin 32 → EReal
  g3 : Fin 32 → EReal
  t3 : Fin 32 → EReal
  W3b : Fin 32 → Fin 32 → EReal
  b3b : Fin 32 → EReal
  Wp1 : Fin 32 → Fin 16 → EReal
  bp1 : Fin 16 → EReal
  Wp2 : Fin 16 → Fin 16 → EReal
  bp2 : Fin 16 → EReal
  Wq1 : Fin 16 → Fin 16 → EReal
  bq1 : Fin 16 → EReal
  Wq2 : Fin 16 → EReal
  bq2 : EReal

/-- The first linear map of the edge `(i, j)`, 96 features a node: `[x_i, x_j - x_i] · W + b`. -/
def lin96 (x : Fin 32 → Fin 96 → EReal) (W : Fin 192 → Fin 64 → EReal) (b : Fin 64 → EReal) (i j : Fin 32)
    (c : Fin 64) : EReal :=
  ((∑ k : Fin 96, x i k * W ⟨k.val, by omega⟩ c) + ∑ k : Fin 96, (x j k - x i k) * W ⟨96 + k.val, by omega⟩ c) + b c

/-- The same with 32 features a node. -/
def lin32 (x : Fin 32 → Fin 32 → EReal) (W : Fin 64 → Fin 32 → EReal) (b : Fin 32 → EReal) (i j : Fin 32)
    (c : Fin 32) : EReal :=
  ((∑ k : Fin 32, x i k * W ⟨k.val, by omega⟩ c) + ∑ k : Fin 32, (x j k - x i k) * W ⟨32 + k.val, by omega⟩ c) + b c

/-- The mean of a row whose length is the number `len`. -/
def mean {n : ℕ} (len : EReal) (h : Fin n → EReal) : EReal := Ideal.div (∑ k : Fin n, h k) len

/-- Layer normalisation of a row, scaled by `g`, shifted by `t` and cut off at 0. -/
def norm {n : ℕ} (len : EReal) (h g t : Fin n → EReal) (c : Fin n) : EReal :=
  max (Ideal.div (h c - mean len h)
      (Ideal.sqrt (mean len (fun k => (h k - mean len h) * (h k - mean len h)) + eps)) * g c + t c) 0

/-- A dense layer at one of its outputs. -/
def dense {d n : ℕ} (h : Fin d → EReal) (W : Fin d → Fin n → EReal) (b : Fin n → EReal) (c : Fin n) : EReal :=
  (∑ k : Fin d, h k * W k c) + b c

/-- What a node gets from its 32 edges, `h j` being the edge to `j`: the mean of the second linear map over `j`. -/
def conv {n : ℕ} (len : EReal) (h : Fin 32 → Fin n → EReal) (g t : Fin n → EReal) (W : Fin n → Fin 32 → EReal)
    (b : Fin 32 → EReal) (c : Fin 32) : EReal :=
  mean c32 fun j : Fin 32 => dense (norm len (h j) g t) W b c

/-- The nodes after the first convolution. -/
def node1 (p : Params) (x : Fin 32 → Fin 96 → EReal) (i c : Fin 32) : EReal :=
  max (conv c64 (fun j => lin96 x p.W1a p.b1a i j) p.g1 p.t1 p.W1b p.b1b c) 0

/-- The nodes after the second convolution. -/
def node2 (p : Params) (x : Fin 32 → Fin 96 → EReal) (i c : Fin 32) : EReal :=
  max (conv c32 (fun j => lin32 (node1 p x) p.W2a p.b2a i j) p.g2 p.t2 p.W2b p.b2b c) 0

/-- The nodes after the third convolution, which has no cut-off. -/
def node3 (p : Params) (x : Fin 32 → Fin 96 → EReal) (i c : Fin 32) : EReal :=
  conv c32 (fun j => lin32 (node2 p x) p.W3a p.b3a i j) p.g3 p.t3 p.W3b p.b3b c

/-- The two dense layers on one node. -/
def phi (p : Params) (y : Fin 32 → EReal) (c : Fin 16) : EReal :=
  max (dense (fun k => max (dense y p.Wp1 p.bp1 k) 0) p.Wp2 p.bp2 c) 0

/-- The value of a graph from its nodes: the mean over the nodes, then the last two dense layers. -/
def head (p : Params) (y : Fin 32 → Fin 32 → EReal) : EReal :=
  (∑ k : Fin 16, max (dense (fun l : Fin 16 => mean c32 fun i : Fin 32 => phi p (y i) l) p.Wq1 p.bq1 k) 0 * p.Wq2 k) + p.bq2

/-- The network's value on one graph. -/
def critic (p : Params) (x : Fin 32 → Fin 96 → EReal) : EReal := head p (node3 p x)

/-- The parameters as the argument arrays hold them. -/
def ofArrays (a1 : FVec Ideal ⟨2, ![192, 64]⟩ .f32)
    (a2 : FVec Ideal ⟨1, ![64]⟩ .f32)
    (a3 : FVec Ideal ⟨1, ![64]⟩ .f32)
    (a4 : FVec Ideal ⟨1, ![64]⟩ .f32)
    (a5 : FVec Ideal ⟨2, ![64, 32]⟩ .f32)
    (a6 : FVec Ideal ⟨1, ![32]⟩ .f32)
    (a7 : FVec Ideal ⟨2, ![64, 32]⟩ .f32)
    (a8 : FVec Ideal ⟨1, ![32]⟩ .f32)
    (a9 : FVec Ideal ⟨1, ![32]⟩ .f32)
    (a10 : FVec Ideal ⟨1, ![32]⟩ .f32)
    (a11 : FVec Ideal ⟨2, ![32, 32]⟩ .f32)
    (a12 : FVec Ideal ⟨1, ![32]⟩ .f32)
    (a13 : FVec Ideal ⟨2, ![64, 32]⟩ .f32)
    (a14 : FVec Ideal ⟨1, ![32]⟩ .f32)
    (a15 : FVec Ideal ⟨1, ![32]⟩ .f32)
    (a16 : FVec Ideal ⟨1, ![32]⟩ .f32)
    (a17 : FVec Ideal ⟨2, ![32, 32]⟩ .f32)
    (a18 : FVec Ideal ⟨1, ![32]⟩ .f32)
    (a19 : FVec Ideal ⟨2, ![32, 16]⟩ .f32)
    (a20 : FVec Ideal ⟨1, ![16]⟩ .f32)
    (a21 : FVec Ideal ⟨2, ![16, 16]⟩ .f32)
    (a22 : FVec Ideal ⟨1, ![16]⟩ .f32)
    (a23 : FVec Ideal ⟨2, ![16, 16]⟩ .f32)
    (a24 : FVec Ideal ⟨1, ![16]⟩ .f32)
    (a25 : FVec Ideal ⟨2, ![16, 1]⟩ .f32)
    (a26 : FVec Ideal ⟨1, ![1]⟩ .f32) : Params where
  W1a k c := a1 (ix2 k c)
  b1a c := a2 (ix1 c)
  g1 c := a3 (ix1 c)
  t1 c := a4 (ix1 c)
  W1b k c := a5 (ix2 k c)
  b1b c := a6 (ix1 c)
  W2a k c := a7 (ix2 k c)
  b2a c := a8 (ix1 c)
  g2 c := a9 (ix1 c)
  t2 c := a10 (ix1 c)
  W2b k c := a11 (ix2 k c)
  b2b c := a12 (ix1 c)
  W3a k c := a13 (ix2 k c)
  b3a c := a14 (ix1 c)
  g3 c := a15 (ix1 c)
  t3 c := a16 (ix1 c)
  W3b k c := a17 (ix2 k c)
  b3b c := a18 (ix1 c)
  Wp1 k c := a19 (ix2 k c)
  bp1 c := a20 (ix1 c)
  Wp2 k c := a21 (ix2 k c)
  bp2 c := a22 (ix1 c)
  Wq1 k c := a23 (ix2 k c)
  bq1 c := a24 (ix1 c)
  Wq2 k := a25 (ix2 k 0)
  bq2 := a26 (ix1 0)

/-- Graph `e` of the argument array: graphs are numbered along the first two axes. -/
def graph (a : FVec Ideal ⟨4, ![8, 32, 32, 96]⟩ .f32) (e : Fin 256) (i : Fin 32) (k : Fin 96) : EReal :=
  a (ix4 ⟨e.val / 32, by omega⟩ ⟨e.val % 32, by omega⟩ i k)

end Cert.Spec

end
-- ==== Proof.KernelStages.lean ====
/- The kernel body's arithmetic on one block of eight graphs, read at an index: each stage is the function of
   `Spec` of the same name at the graph, the node and the feature that the index names. -/
module

public import proofs.«01_k».proof.Proof.Spec
public import proofs.«01_k».proof.Proof.Gen.KernelIdeal.Skeleton

@[expose] public section

set_option maxRecDepth 16384

noncomputable section

namespace Cert.KernelIdeal.Stage

open Idealize.ShloMosaic Cert.KernelIdeal Cert.KernelIdeal.Gen Cert.Spec

/-- The parameters as the blocks hold them: matrices as they are, vectors as the one row of a `1 × n` array. -/
def blockParams (x1 : Vec Ideal S192x64 .f32) (x2 x3 x4 : Vec Ideal S1x64 .f32) (x5 : Vec Ideal S64x32 .f32)
    (x6 : Vec Ideal S1x32 .f32) (x7 : Vec Ideal S64x32 .f32) (x8 x9 x10 : Vec Ideal S1x32 .f32)
    (x11 : Vec Ideal S32x32 .f32) (x12 : Vec Ideal S1x32 .f32) (x13 : Vec Ideal S64x32 .f32)
    (x14 x15 x16 : Vec Ideal S1x32 .f32) (x17 : Vec Ideal S32x32 .f32) (x18 : Vec Ideal S1x32 .f32)
    (x19 : Vec Ideal S32x16 .f32) (x20 : Vec Ideal S1x16 .f32) (x21 : Vec Ideal S16x16 .f32)
    (x22 : Vec Ideal S1x16 .f32) (x23 : Vec Ideal S16x16 .f32) (x24 : Vec Ideal S1x16 .f32)
    (x25 : Vec Ideal S16x1 .f32) (x26 : Vec Ideal S1x1 .f32) : Params where
  W1a k c := x1 (ix2 k c)
  b1a c := x2 (ix2 0 c)
  g1 c := x3 (ix2 0 c)
  t1 c := x4 (ix2 0 c)
  W1b k c := x5 (ix2 k c)
  b1b c := x6 (ix2 0 c)
  W2a k c := x7 (ix2 k c)
  b2a c := x8 (ix2 0 c)
  g2 c := x9 (ix2 0 c)
  t2 c := x10 (ix2 0 c)
  W2b k c := x11 (ix2 k c)
  b2b c := x12 (ix2 0 c)
  W3a k c := x13 (ix2 k c)
  b3a c := x14 (ix2 0 c)
  g3 c := x15 (ix2 0 c)
  t3 c := x16 (ix2 0 c)
  W3b k c := x17 (ix2 k c)
  b3b c := x18 (ix2 0 c)
  Wp1 k c := x19 (ix2 k c)
  bp1 c := x20 (ix2 0 c)
  Wp2 k c := x21 (ix2 k c)
  bp2 c := x22 (ix2 0 c)
  Wq1 k c := x23 (ix2 k c)
  bq1 c := x24 (ix2 0 c)
  Wq2 k := x25 (ix2 k 0)
  bq2 := x26 (ix2 0 0)

/-- The first linear map at the row of edge `(i, j)` of graph `g`. -/
theorem lin96_at (x : Vec Ideal S8x32x96 .f32) (W : Vec Ideal S192x64 .f32) (b : Vec Ideal S1x64 .f32)
    (g i : ℕ) (hg : g < 8) (hi : i < 32) (j : Fin 32) (h : g * 1024 + i * 32 + j.val < 8192) (c : Fin 64) :
    k0_pay4 (F := Ideal) x W b (ix2 ⟨g * 1024 + i * 32 + j.val, h⟩ c)
      = lin96 (fun a k => x (ix3 ⟨g, hg⟩ a k)) (fun k c => W (ix2 k c)) (fun c => b (ix2 0 c)) ⟨i, hi⟩ j c := by
  have e1 : (g * 1024 + i * 32 + j.val) / 1024 = g := by omega
  have e2 : (g * 1024 + i * 32 + j.val) / 32 % 32 = i := by omega
  have e3 : (g * 1024 + i * 32 + j.val) % 32 = j.val := by omega
  pointwise [k0_pay4]
  simp only [e1, e2, e3]
  rfl

/-- The variance of a row of the first linear map. -/
theorem var_at (x : Vec Ideal S8x32x96 .f32) (W : Vec Ideal S192x64 .f32) (b : Vec Ideal S1x64 .f32) (r : Fin 8192) :
    k0_pay6 (F := Ideal) x W b (ix2 r 0)
      = mean c64 (fun k => (k0_pay4 (F := Ideal) x W b (ix2 r k) - mean c64 (fun l => k0_pay4 (F := Ideal) x W b (ix2 r l)))
          * (k0_pay4 (F := Ideal) x W b (ix2 r k) - mean c64 (fun l => k0_pay4 (F := Ideal) x W b (ix2 r l)))) := by
  pointwise [k0_pay6, k0_pay5]
  rfl

/-- An entry of a row of the first linear map, less the row's mean. -/
theorem centred_at (x : Vec Ideal S8x32x96 .f32) (W : Vec Ideal S192x64 .f32) (b : Vec Ideal S1x64 .f32) (r : Fin 8192)
    (k : Fin 64) :
    k0_pay7 (F := Ideal) x W b (ix2 r k)
      = k0_pay4 (F := Ideal) x W b (ix2 r k) - mean c64 (fun l => k0_pay4 (F := Ideal) x W b (ix2 r l)) := by
  pointwise [k0_pay7, k0_pay5]
  rfl

/-- The small number, as the array of one column that the body makes of it. -/
theorem eps_at (r : Fin 8192) : k0_pay8 (F := Ideal) (ix2 r 0) = eps := by
  pointwise [k0_pay8]

/-- The rest of the first convolution and the second's linear map, from a row's variance `u`, centred entries `w` and
    small number `e`. -/
theorem conv1_raw (v6 v8 : FVec Ideal S1x64 .f32) (v9 : Vec Ideal S64x32 .f32) (v11 : FVec Ideal S1x32 .f32)
    (u : FVec Ideal S8192x1 .f32) (w : FVec Ideal S8192x64 .f32) (e : FVec Ideal S8192x1 .f32)
    (x7 : Vec Ideal S64x32 .f32) (x8 : Vec Ideal S1x32 .f32)
    (g i : ℕ) (hg : g < 8) (hi : i < 32) (j : Fin 32) (h : g * 1024 + i * 32 + j.val < 8192) (c : Fin 32) :
    k0_pay12 (F := Ideal) v6 v8 v9 v11 u w e x7 x8 (ix2 ⟨g * 1024 + i * 32 + j.val, h⟩ c)
      = lin32 (fun a k => max (mean c32 fun j : Fin 32 => dense (fun l : Fin 64 =>
            max (Ideal.div (w (ix2 ⟨g * 1024 + a.val * 32 + j.val, by omega⟩ l))
              (Ideal.sqrt (u (ix2 ⟨g * 1024 + a.val * 32 + j.val, by omega⟩ 0)
                + e (ix2 ⟨g * 1024 + a.val * 32 + j.val, by omega⟩ 0))) * v6 (ix2 0 l) + v8 (ix2 0 l)) 0)
            (fun k c => v9 (ix2 k c)) (fun c => v11 (ix2 0 c)) k) 0)
          (fun k c => x7 (ix2 k c)) (fun c => x8 (ix2 0 c)) ⟨i, hi⟩ j c := by
  have e1 : (g * 1024 + i * 32 + j.val) / 1024 = g := by omega
  have e2 : (g * 1024 + i * 32 + j.val) / 32 % 32 = i := by omega
  have e3 : (g * 1024 + i * 32 + j.val) % 32 = j.val := by omega
  pointwise [k0_pay12]
  simp only [e1, e2, e3]
  rfl

/-- The first convolution followed by the second's linear map, at the row of edge `(i, j)` of graph `g`. -/
theorem conv1_at (x0 : Vec Ideal S8x32x96 .f32) (x1 : Vec Ideal S192x64 .f32) (x2 x3 x4 : Vec Ideal S1x64 .f32)
    (x5 : Vec Ideal S64x32 .f32) (x6 : Vec Ideal S1x32 .f32) (x7 : Vec Ideal S64x32 .f32) (x8 : Vec Ideal S1x32 .f32)
    (g : Fin 8) (i j : Fin 32) (h : g.val * 1024 + i.val * 32 + j.val < 8192) (c : Fin 32) :
    k0_pay12 (F := Ideal) (k0_pay1 x3) (k0_pay2 x4) x5 (k0_pay3 x6) (k0_pay6 x0 x1 x2) (k0_pay7 x0 x1 x2) k0_pay8 x7 x8
        (ix2 ⟨g.val * 1024 + i.val * 32 + j.val, h⟩ c)
      = lin32 (fun a k => max (conv c64
            (fun j => lin96 (fun a k => x0 (ix3 g a k)) (fun k c => x1 (ix2 k c)) (fun c => x2 (ix2 0 c)) a j)
            (fun c => x3 (ix2 0 c)) (fun c => x4 (ix2 0 c)) (fun k c => x5 (ix2 k c)) (fun c => x6 (ix2 0 c)) k) 0)
          (fun k c => x7 (ix2 k c)) (fun c => x8 (ix2 0 c)) i j c := by
  have p1 : ∀ k, k0_pay1 (F := Ideal) x3 (ix2 0 k) = x3 (ix2 0 k) := fun k => by pointwise [k0_pay1]
  have p2 : ∀ k, k0_pay2 (F := Ideal) x4 (ix2 0 k) = x4 (ix2 0 k) := fun k => by pointwise [k0_pay2]
  have p3 : ∀ k, k0_pay3 (F := Ideal) x6 (ix2 0 k) = x6 (ix2 0 k) := fun k => by pointwise [k0_pay3]
  rw [conv1_raw _ _ _ _ _ _ _ _ _ g.val i.val g.isLt i.isLt]
  congr 1
  funext a k
  simp only [var_at, centred_at, eps_at, p1, p2, p3, lin96_at _ _ _ g.val _ g.isLt a.isLt]
  rfl

/-- The second convolution's remaining part at node `i` of graph `g`, from its linear map `v`. -/
theorem conv2_at (x9 x10 : Vec Ideal S1x32 .f32) (x11 : Vec Ideal S32x32 .f32) (x12 : Vec Ideal S1x32 .f32)
    (v : FVec Ideal S8192x32 .f32) (g : Fin 8) (i c : Fin 32) :
    k0_pay13 (F := Ideal) (k0_pay9 x9) (k0_pay10 x10) x11 (k0_pay11 x12) v (ix3 g i c)
      = max (conv c32 (fun j k => v (ix2 ⟨g.val * 1024 + i.val * 32 + j.val, by omega⟩ k))
          (fun c => x9 (ix2 0 c)) (fun c => x10 (ix2 0 c)) (fun k c => x11 (ix2 k c)) (fun c => x12 (ix2 0 c)) c) 0 := by
  pointwise [k0_pay13, k0_pay9, k0_pay10, k0_pay11]
  rfl

/-- The third convolution at node `i` of graph `g`, from the nodes `v` after the second. -/
theorem conv3_at (v : FVec Ideal S8x32x32 .f32) (x13 : Vec Ideal S64x32 .f32) (x14 x15 x16 : Vec Ideal S1x32 .f32)
    (x17 : Vec Ideal S32x32 .f32) (x18 : Vec Ideal S1x32 .f32) (g : Fin 8) (i : Fin 32)
    (h : g.val * 32 + i.val < 256) (c : Fin 32) :
    k0_pay17 (F := Ideal) v x13 (k0_pay14 x14) (k0_pay15 x15) (k0_pay16 x16) x17 x18 (ix2 ⟨g.val * 32 + i.val, h⟩ c)
      = conv c32 (fun j => lin32 (fun a k => v (ix3 g a k)) (fun k c => x13 (ix2 k c)) (fun c => x14 (ix2 0 c)) i j)
          (fun c => x15 (ix2 0 c)) (fun c => x16 (ix2 0 c)) (fun k c => x17 (ix2 k c)) (fun c => x18 (ix2 0 c)) c := by
  pointwise [k0_pay17, k0_pay14, k0_pay15, k0_pay16]
  rfl

/-- The two heads at graph `g`, from the nodes `v` as rows. -/
theorem head_at (v : FVec Ideal S256x32 .f32) (x19 : Vec Ideal S32x16 .f32) (x20 : Vec Ideal S1x16 .f32)
    (x21 : Vec Ideal S16x16 .f32) (x22 : Vec Ideal S1x16 .f32) (x23 : Vec Ideal S16x16 .f32) (x24 : Vec Ideal S1x16 .f32)
    (x25 : Vec Ideal S16x1 .f32) (x26 : Vec Ideal S1x1 .f32) (p : Params)
    (hp : p.Wp1 = (fun k c => x19 (ix2 k c)) ∧ p.bp1 = (fun c => x20 (ix2 0 c)) ∧ p.Wp2 = (fun k c => x21 (ix2 k c))
      ∧ p.bp2 = (fun c => x22 (ix2 0 c)) ∧ p.Wq1 = (fun k c => x23 (ix2 k c)) ∧ p.bq1 = (fun c => x24 (ix2 0 c))
      ∧ p.Wq2 = (fun k => x25 (ix2 k 0)) ∧ p.bq2 = x26 (ix2 0 0)) (g : Fin 8) :
    k0_pay18 (F := Ideal) v x19 x20 x21 x22 x23 x24 x25 x26 (ix2 g 0)
      = head p (fun i c => v (ix2 ⟨g.val * 32 + i.val, by omega⟩ c)) := by
  obtain ⟨h1, h2, h3, h4, h5, h6, h7, h8⟩ := hp
  simp only [head, phi, dense, mean, h1, h2, h3, h4, h5, h6, h7, h8]
  pointwise [k0_pay18]

/-- The whole body at graph `g` of the block: the network's value on that graph. -/
theorem block_at (x0 : Vec Ideal S8x32x96 .f32) (x1 : Vec Ideal S192x64 .f32) (x2 x3 x4 : Vec Ideal S1x64 .f32) (x5 : Vec Ideal S64x32 .f32)
    (x6 : Vec Ideal S1x32 .f32) (x7 : Vec Ideal S64x32 .f32) (x8 x9 x10 : Vec Ideal S1x32 .f32)
    (x11 : Vec Ideal S32x32 .f32) (x12 : Vec Ideal S1x32 .f32) (x13 : Vec Ideal S64x32 .f32)
    (x14 x15 x16 : Vec Ideal S1x32 .f32) (x17 : Vec Ideal S32x32 .f32) (x18 : Vec Ideal S1x32 .f32)
    (x19 : Vec Ideal S32x16 .f32) (x20 : Vec Ideal S1x16 .f32) (x21 : Vec Ideal S16x16 .f32)
    (x22 : Vec Ideal S1x16 .f32) (x23 : Vec Ideal S16x16 .f32) (x24 : Vec Ideal S1x16 .f32)
    (x25 : Vec Ideal S16x1 .f32) (x26 : Vec Ideal S1x1 .f32) (g : Fin 8) :
    k0_pay18 (F := Ideal) (k0_pay17 (k0_pay13 (k0_pay9 x9) (k0_pay10 x10) x11 (k0_pay11 x12) (k0_pay12 (k0_pay1 x3) (k0_pay2 x4) x5 (k0_pay3 x6) (k0_pay6 x0 x1 x2) (k0_pay7 x0 x1 x2) k0_pay8 x7 x8)) x13 (k0_pay14 x14) (k0_pay15 x15) (k0_pay16 x16) x17 x18) x19 x20 x21 x22 x23 x24 x25 x26 (ix2 g 0)
      = critic (blockParams x1 x2 x3 x4 x5 x6 x7 x8 x9 x10 x11 x12 x13 x14 x15 x16 x17 x18 x19 x20 x21 x22 x23 x24 x25 x26) (fun a k => x0 (ix3 g a k)) := by
  rw [head_at _ _ _ _ _ _ _ _ _ (blockParams x1 x2 x3 x4 x5 x6 x7 x8 x9 x10 x11 x12 x13 x14 x15 x16 x17 x18 x19 x20 x21 x22 x23 x24 x25 x26) ⟨rfl, rfl, rfl, rfl, rfl, rfl, rfl, rfl⟩]
  unfold critic
  congr 1
  funext i c
  rw [conv3_at]
  unfold node3
  have h2 : ∀ a k, k0_pay13 (F := Ideal) (k0_pay9 x9) (k0_pay10 x10) x11 (k0_pay11 x12) (k0_pay12 (k0_pay1 x3) (k0_pay2 x4) x5 (k0_pay3 x6) (k0_pay6 x0 x1 x2) (k0_pay7 x0 x1 x2) k0_pay8 x7 x8) (ix3 g a k)
      = node2 (blockParams x1 x2 x3 x4 x5 x6 x7 x8 x9 x10 x11 x12 x13 x14 x15 x16 x17 x18 x19 x20 x21 x22 x23 x24 x25 x26) (fun a k => x0 (ix3 g a k)) a k := by
    intro a k
    rw [conv2_at]
    simp only [conv1_at]
    rfl
  simp only [h2]
  rfl

end Cert.KernelIdeal.Stage

end
-- ==== Proof.IdealFrame.lean ====
/- The frame of the kernel over the extended reals: the kernel body's triple, the pipeline's proof data, the run of the whole program
   and the frame claim, on top of the launch kit (`Gen.KernelIdeal.Frame`). -/
module

public import proofs.«01_k».proof.Proof.Gen.KernelIdeal.Frame
public import proofs.«01_k».proof.Proof.Gen.KernelIdeal.Skeleton
public import Idealize.ShloMosaic.Lib.Claim
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S8x32x96 := Rect.unit (s := S8x32x96) ![0, 0, 0] S8x32x96.size inb_S8x32x96_S8x32x96_0_0_0
abbrev r0_1 : Rect S192x64 := Rect.unit (s := S192x64) ![0, 0] S192x64.size inb_S192x64_S192x64_0_0
abbrev r0_2 : Rect S1x64 := Rect.unit (s := S1x64) ![0, 0] S1x64.size inb_S1x64_S1x64_0_0
abbrev r0_3 : Rect S64x32 := Rect.unit (s := S64x32) ![0, 0] S64x32.size inb_S64x32_S64x32_0_0
abbrev r0_4 : Rect S1x32 := Rect.unit (s := S1x32) ![0, 0] S1x32.size inb_S1x32_S1x32_0_0
abbrev r0_5 : Rect S32x32 := Rect.unit (s := S32x32) ![0, 0] S32x32.size inb_S32x32_S32x32_0_0
abbrev r0_6 : Rect S32x16 := Rect.unit (s := S32x16) ![0, 0] S32x16.size inb_S32x16_S32x16_0_0
abbrev r0_7 : Rect S1x16 := Rect.unit (s := S1x16) ![0, 0] S1x16.size inb_S1x16_S1x16_0_0
abbrev r0_8 : Rect S16x16 := Rect.unit (s := S16x16) ![0, 0] S16x16.size inb_S16x16_S16x16_0_0
abbrev r0_9 : Rect S16x1 := Rect.unit (s := S16x1) ![0, 0] S16x1.size inb_S16x1_S16x1_0_0
abbrev r0_10 : Rect S1x1 := Rect.unit (s := S1x1) ![0, 0] S1x1.size inb_S1x1_S1x1_0_0
abbrev r0_11 : Rect S8x1 := Rect.unit (s := S8x1) ![0, 0] S8x1.size inb_S8x1_S8x1_0_0

/-! ## What the body leaves in each output window's buffer -/

/-- The result window's buffer after the body, from the input windows' blocks: the body's one store. -/
def out0_27 (x0 : Vec F S8x32x96 .f32) (x1 : Vec F S192x64 .f32) (x2 : Vec F S1x64 .f32) (x3 : Vec F S1x64 .f32) (x4 : Vec F S1x64 .f32) (x5 : Vec F S64x32 .f32) (x6 : Vec F S1x32 .f32) (x7 : Vec F S64x32 .f32) (x8 : Vec F S1x32 .f32) (x9 : Vec F S1x32 .f32) (x10 : Vec F S1x32 .f32) (x11 : Vec F S32x32 .f32) (x12 : Vec F S1x32 .f32) (x13 : Vec F S64x32 .f32) (x14 : Vec F S1x32 .f32) (x15 : Vec F S1x32 .f32) (x16 : Vec F S1x32 .f32) (x17 : Vec F S32x32 .f32) (x18 : Vec F S1x32 .f32) (x19 : Vec F S32x16 .f32) (x20 : Vec F S1x16 .f32) (x21 : Vec F S16x16 .f32) (x22 : Vec F S1x16 .f32) (x23 : Vec F S16x16 .f32) (x24 : Vec F S1x16 .f32) (x25 : Vec F S16x1 .f32) (x26 : Vec F S1x1 .f32) : Vec F S8x1 .f32 :=
  View.canon [⟨r0_11, k0_pay18 (k0_pay17 (k0_pay13 (k0_pay9 (View.ld x9 r0_4)) (k0_pay10 (View.ld x10 r0_4)) (View.ld x11 r0_5) (k0_pay11 (View.ld x12 r0_4)) (k0_pay12 (k0_pay1 (View.ld x3 r0_2)) (k0_pay2 (View.ld x4 r0_2)) (View.ld x5 r0_3) (k0_pay3 (View.ld x6 r0_4)) (k0_pay6 (View.ld x0 r0_0) (View.ld x1 r0_1) (View.ld x2 r0_2)) (k0_pay7 (View.ld x0 r0_0) (View.ld x1 r0_1) (View.ld x2 r0_2)) (k0_pay8 (F := F)) (View.ld x7 r0_3) (View.ld x8 r0_4))) (View.ld x13 r0_3) (k0_pay14 (View.ld x14 r0_4)) (k0_pay15 (View.ld x15 r0_4)) (k0_pay16 (View.ld x16 r0_4)) (View.ld x17 r0_5) (View.ld x18 r0_4)) (View.ld x19 r0_6) (View.ld x20 r0_7) (View.ld x21 r0_8) (View.ld x22 r0_7) (View.ld x23 r0_8) (View.ld x24 r0_7) (View.ld x25 r0_9) (View.ld x26 r0_10)⟩]

/-- That store covers the buffer. -/
theorem cover0_27 (p0 : Vec F S8x1 .f32) (y : S8x1.Idx) :
    ∃ pc ∈ ([⟨r0_11, p0⟩] : List (View.Piece (Elt F) S8x1 .f32)), y ∈ pc.1.set :=
  View.cover_of_tiled [⟨r0_11, p0⟩] S8x1.size (by rfl) y

/-! ## The body's triple -/

set_option maxHeartbeats 1000000 in
/-- The kernel body, started with the input buffers holding the blocks `xW` and the result buffer anything, runs to
    its end with the inputs unchanged and the result buffer at `out0_27`. -/
theorem sound_kernel (c : Dev nD) (E : Set ℕ) (i : grid0.Coords) (arg1 : Memref sig .tc .vmem S8x32x96 .f32) (harg1 : arg1.IsWhole) (arg2 : Memref sig .tc .vmem S192x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S32x32 .f32) (harg12 : arg12.IsWhole) (arg13 : Memref sig .tc .vmem S1x32 .f32) (harg13 : arg13.IsWhole) (arg14 : Memref sig .tc .vmem S64x32 .f32) (harg14 : arg14.IsWhole) (arg15 : Memref sig .tc .vmem S1x32 .f32) (harg15 : arg15.IsWhole) (arg16 : Memref sig .tc .vmem S1x32 .f32) (harg16 : arg16.IsWhole) (arg17 : Memref sig .tc .vmem S1x32 .f32) (harg17 : arg17.IsWhole) (arg18 : Memref sig .tc .vmem S32x32 .f32) (harg18 : arg18.IsWhole) (arg19 : Memref sig .tc .vmem S1x32 .f32) (harg19 : arg19.IsWhole) (arg20 : Memref sig .tc .vmem S32x16 .f32) (harg20 : arg20.IsWhole) (arg21 : Memref sig .tc .vmem S1x16 .f32) (harg21 : arg21.IsWhole) (arg22 : Memref sig .tc .vmem S16x16 .f32) (harg22 : arg22.IsWhole) (arg23 : Memref sig .tc .vmem S1x16 .f32) (harg23 : arg23.IsWhole) (arg24 : Memref sig .tc .vmem S16x16 .f32) (harg24 : arg24.IsWhole) (arg25 : Memref sig .tc .vmem S1x16 .f32) (harg25 : arg25.IsWhole) (arg26 : Memref sig .tc .vmem S16x1 .f32) (harg26 : arg26.IsWhole) (arg27 : Memref sig .tc .vmem S1x1 .f32) (harg27 : arg27.IsWhole) (arg28 : Memref sig .tc .vmem S8x1 .f32) (harg28 : arg28.IsWhole)
    (x0 : Vec F S8x32x96 .f32) (x1 : Vec F S192x64 .f32) (x2 : Vec F S1x64 .f32) (x3 : Vec F S1x64 .f32) (x4 : Vec F S1x64 .f32) (x5 : Vec F S64x32 .f32) (x6 : Vec F S1x32 .f32) (x7 : Vec F S64x32 .f32) (x8 : Vec F S1x32 .f32) (x9 : Vec F S1x32 .f32) (x10 : Vec F S1x32 .f32) (x11 : Vec F S32x32 .f32) (x12 : Vec F S1x32 .f32) (x13 : Vec F S64x32 .f32) (x14 : Vec F S1x32 .f32) (x15 : Vec F S1x32 .f32) (x16 : Vec F S1x32 .f32) (x17 : Vec F S32x32 .f32) (x18 : Vec F S1x32 .f32) (x19 : Vec F S32x16 .f32) (x20 : Vec F S1x16 .f32) (x21 : Vec F S16x16 .f32) (x22 : Vec F S1x16 .f32) (x23 : Vec F S16x16 .f32) (x24 : Vec F S1x16 .f32) (x25 : Vec F S16x1 .f32) (x26 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out0_27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__critic_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__critic_kernel_eq_skeleton]; unfold cc0__critic_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  exact View.read_writes_eq_canon _ _ _ (cover0_27 _)

/-! ## The pipeline's proof data -/

/-- What the proof says of the one pipeline on core `c`: the arrays as the region finds them; after the body the inputs
    hold their blocks and the result buffer the body's store; nothing is owed, all shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨_ + 28, h⟩ => absurd h (Nat.not_lt.2 (Nat.le_add_left _ _))
  Φ _ := Pipeline.ΦA spec0 c
  q _ := fullShare
  owed _ := 0

/-- The arrays are those that the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

/-- Every input's current buffer holds its block at every point, fetched there or kept from before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 1600000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body that the pipeline calls at point `t` is `bodyAt0`. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- What the launch asks of the body at every point: its triple, restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: `run_main`'s statement, and every semaphore counter at zero in every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- From any memory with zero counters every weakly fair run ends, every array of the pipeline holding what its blocks
    were written with and every other buffer what the lines after the region leave in it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.KernelIdeal.Run

end
-- ==== Proof.KernelValue.lean ====
/- The kernel's result array: every block that the run writes back holds the network's value on its eight graphs, the
   blocks tile the array, and the last line of the program gives it its final shape. -/
module

public import proofs.«01_k».proof.Proof.KernelStages
public import proofs.«01_k».proof.Proof.IdealFrame
public import Idealize.ShloMosaic.Lib.Pipeline.ValueKit

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.KernelIdeal.Run Cert.KernelIdeal.Stage Cert.Spec

variable (m : (ℓ : Loc nD τ sig) → Buf (Elt Ideal) ℓ)

/-- The blocks' places: the graphs' and the results' move with the grid point, the parameters' are whole arrays. -/
theorem places : ∀ t : Fin cfg0.N, win0_0.index t = ![t.val, 0, 0] ∧ win0_27.index t = ![t.val, 0] ∧ t.val < 32 :=
  (by decide +kernel : ∀ t : Fin grid0.N, _)

theorem place1 : ∀ t : Fin cfg0.N, win0_1.index t = ![0, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![0, 0] := (by decide +kernel : ∀ t : Fin grid0.N, _)
theorem place6 : ∀ t : Fin cfg0.N, win0_6.index t = ![0, 0] := (by decide +kernel : ∀ t : Fin grid0.N, _)
theorem place7 : ∀ t : Fin cfg0.N, win0_7.index t = ![0, 0] := (by decide +kernel : ∀ t : Fin grid0.N, _)
theorem place8 : ∀ t : Fin cfg0.N, win0_8.index t = ![0, 0] := (by decide +kernel : ∀ t : Fin grid0.N, _)
theorem place9 : ∀ t : Fin cfg0.N, win0_9.index t = ![0, 0] := (by decide +kernel : ∀ t : Fin grid0.N, _)
theorem place10 : ∀ t : Fin cfg0.N, win0_10.index t = ![0, 0] := (by decide +kernel : ∀ t : Fin grid0.N, _)
theorem place11 : ∀ t : Fin cfg0.N, win0_11.index t = ![0, 0] := (by decide +kernel : ∀ t : Fin grid0.N, _)
theorem place12 : ∀ t : Fin cfg0.N, win0_12.index t = ![0, 0] := (by decide +kernel : ∀ t : Fin grid0.N, _)
theorem place13 : ∀ t : Fin cfg0.N, win0_13.index t = ![0, 0] := (by decide +kernel : ∀ t : Fin grid0.N, _)
theorem place14 : ∀ t : Fin cfg0.N, win0_14.index t = ![0, 0] := (by decide +kernel : ∀ t : Fin grid0.N, _)
theorem place15 : ∀ t : Fin cfg0.N, win0_15.index t = ![0, 0] := (by decide +kernel : ∀ t : Fin grid0.N, _)
theorem place16 : ∀ t : Fin cfg0.N, win0_16.index t = ![0, 0] := (by decide +kernel : ∀ t : Fin grid0.N, _)
theorem place17 : ∀ t : Fin cfg0.N, win0_17.index t = ![0, 0] := (by decide +kernel : ∀ t : Fin grid0.N, _)
theorem place18 : ∀ t : Fin cfg0.N, win0_18.index t = ![0, 0] := (by decide +kernel : ∀ t : Fin grid0.N, _)
theorem place19 : ∀ t : Fin cfg0.N, win0_19.index t = ![0, 0] := (by decide +kernel : ∀ t : Fin grid0.N, _)
theorem place20 : ∀ t : Fin cfg0.N, win0_20.index t = ![0, 0] := (by decide +kernel : ∀ t : Fin grid0.N, _)
theorem place21 : ∀ t : Fin cfg0.N, win0_21.index t = ![0, 0] := (by decide +kernel : ∀ t : Fin grid0.N, _)
theorem place22 : ∀ t : Fin cfg0.N, win0_22.index t = ![0, 0] := (by decide +kernel : ∀ t : Fin grid0.N, _)
theorem place23 : ∀ t : Fin cfg0.N, win0_23.index t = ![0, 0] := (by decide +kernel : ∀ t : Fin grid0.N, _)
theorem place24 : ∀ t : Fin cfg0.N, win0_24.index t = ![0, 0] := (by decide +kernel : ∀ t : Fin grid0.N, _)
theorem place25 : ∀ t : Fin cfg0.N, win0_25.index t = ![0, 0] := (by decide +kernel : ∀ t : Fin grid0.N, _)
theorem place26 : ∀ t : Fin cfg0.N, win0_26.index t = ![0, 0] := (by decide +kernel : ∀ t : Fin grid0.N, _)

/-! The arrays that the lines before the kernel make: the graphs in one row of 256, each vector as a `1 × n` array. -/

theorem entry0 (c : Dev nD) :
    V m c main_v0 = shapeCast S256x32x96 (m ((c : Thread nD τ).loc main_arg0)) shapeCasts_S8x32x32x96_S256x32x96 := by
  unfold V V0
  simp only [List.flatten_cons, List.flatten_nil, List.append_nil, hostOps0]
  after_results_simp
  rfl

theorem entry2 (c : Dev nD) :
    V m c main_v1 = shapeCast S1x64 (m ((c : Thread nD τ).loc main_arg2)) shapeCasts_S64_S1x64 := by
  unfold V V0
  simp only [List.flatten_cons, List.flatten_nil, List.append_nil, hostOps0]
  after_results_simp
  rfl

theorem entry3 (c : Dev nD) :
    V m c main_v2 = shapeCast S1x64 (m ((c : Thread nD τ).loc main_arg3)) shapeCasts_S64_S1x64 := by
  unfold V V0
  simp only [List.flatten_cons, List.flatten_nil, List.append_nil, hostOps0]
  after_results_simp
  rfl

theorem entry4 (c : Dev nD) :
    V m c main_v3 = shapeCast S1x64 (m ((c : Thread nD τ).loc main_arg4)) shapeCasts_S64_S1x64 := by
  unfold V V0
  simp only [List.flatten_cons, List.flatten_nil, List.append_nil, hostOps0]
  after_results_simp
  rfl

theorem entry6 (c : Dev nD) :
    V m c main_v4 = shapeCast S1x32 (m ((c : Thread nD τ).loc main_arg6)) shapeCasts_S32_S1x32 := by
  unfold V V0
  simp only [List.flatten_cons, List.flatten_nil, List.append_nil, hostOps0]
  after_results_simp
  rfl

theorem entry8 (c : Dev nD) :
    V m c main_v5 = shapeCast S1x32 (m ((c : Thread nD τ).loc main_arg8)) shapeCasts_S32_S1x32 := by
  unfold V V0
  simp only [List.flatten_cons, List.flatten_nil, List.append_nil, hostOps0]
  after_results_simp
  rfl

theorem entry9 (c : Dev nD) :
    V m c main_v6 = shapeCast S1x32 (m ((c : Thread nD τ).loc main_arg9)) shapeCasts_S32_S1x32 := by
  unfold V V0
  simp only [List.flatten_cons, List.flatten_nil, List.append_nil, hostOps0]
  after_results_simp
  rfl

theorem entry10 (c : Dev nD) :
    V m c main_v7 = shapeCast S1x32 (m ((c : Thread nD τ).loc main_arg10)) shapeCasts_S32_S1x32 := by
  unfold V V0
  simp only [List.flatten_cons, List.flatten_nil, List.append_nil, hostOps0]
  after_results_simp
  rfl

theorem entry12 (c : Dev nD) :
    V m c main_v8 = shapeCast S1x32 (m ((c : Thread nD τ).loc main_arg12)) shapeCasts_S32_S1x32 := by
  unfold V V0
  simp only [List.flatten_cons, List.flatten_nil, List.append_nil, hostOps0]
  after_results_simp
  rfl

theorem entry14 (c : Dev nD) :
    V m c main_v9 = shapeCast S1x32 (m ((c : Thread nD τ).loc main_arg14)) shapeCasts_S32_S1x32 := by
  unfold V V0
  simp only [List.flatten_cons, List.flatten_nil, List.append_nil, hostOps0]
  after_results_simp
  rfl

theorem entry15 (c : Dev nD) :
    V m c main_v10 = shapeCast S1x32 (m ((c : Thread nD τ).loc main_arg15)) shapeCasts_S32_S1x32 := by
  unfold V V0
  simp only [List.flatten_cons, List.flatten_nil, List.append_nil, hostOps0]
  after_results_simp
  rfl

theorem entry16 (c : Dev nD) :
    V m c main_v11 = shapeCast S1x32 (m ((c : Thread nD τ).loc main_arg16)) shapeCasts_S32_S1x32 := by
  unfold V V0
  simp only [List.flatten_cons, List.flatten_nil, List.append_nil, hostOps0]
  after_results_simp
  rfl

theorem entry18 (c : Dev nD) :
    V m c main_v12 = shapeCast S1x32 (m ((c : Thread nD τ).loc main_arg18)) shapeCasts_S32_S1x32 := by
  unfold V V0
  simp only [List.flatten_cons, List.flatten_nil, List.append_nil, hostOps0]
  after_results_simp
  rfl

theorem entry20 (c : Dev nD) :
    V m c main_v13 = shapeCast S1x16 (m ((c : Thread nD τ).loc main_arg20)) shapeCasts_S16_S1x16 := by
  unfold V V0
  simp only [List.flatten_cons, List.flatten_nil, List.append_nil, hostOps0]
  after_results_simp
  rfl

theorem entry22 (c : Dev nD) :
    V m c main_v14 = shapeCast S1x16 (m ((c : Thread nD τ).loc main_arg22)) shapeCasts_S16_S1x16 := by
  unfold V V0
  simp only [List.flatten_cons, List.flatten_nil, List.append_nil, hostOps0]
  after_results_simp
  rfl

theorem entry24 (c : Dev nD) :
    V m c main_v15 = shapeCast S1x16 (m ((c : Thread nD τ).loc main_arg24)) shapeCasts_S16_S1x16 := by
  unfold V V0
  simp only [List.flatten_cons, List.flatten_nil, List.append_nil, hostOps0]
  after_results_simp
  rfl

theorem entry26 (c : Dev nD) :
    V m c main_v16 = shapeCast S1x1 (m ((c : Thread nD τ).loc main_arg26)) shapeCasts_S1_S1x1 := by
  unfold V V0
  simp only [List.flatten_cons, List.flatten_nil, List.append_nil, hostOps0]
  after_results_simp
  rfl

/-- Parameter W1a's block is its array. -/
theorem blk1 (c : Dev nD) (t : Fin cfg0.N) (k : Fin 192) (l : Fin 64) :
    iblk m c 1 t (ix2 k l) = m ((c : Thread nD τ).loc main_arg1) (ix2 k l) := by
  blk_ext! [iblk, V, place1 t]

/-- Parameter b1a's block is its array as one row. -/
theorem blk2 (c : Dev nD) (t : Fin cfg0.N) (l : Fin 64) :
    iblk m c 2 t (ix2 0 l) = m ((c : Thread nD τ).loc main_arg2) (ix1 l) := by
  rw [show iblk m c 2 t (ix2 0 l) = V m c main_v1 (((cfg0.win 2).blk t).view.emb (ix2 0 l)) from rfl, entry2]
  pointwise
  blk_ext [place2 t]

/-- Parameter g1's block is its array as one row. -/
theorem blk3 (c : Dev nD) (t : Fin cfg0.N) (l : Fin 64) :
    iblk m c 3 t (ix2 0 l) = m ((c : Thread nD τ).loc main_arg3) (ix1 l) := by
  rw [show iblk m c 3 t (ix2 0 l) = V m c main_v2 (((cfg0.win 3).blk t).view.emb (ix2 0 l)) from rfl, entry3]
  pointwise
  blk_ext [place3 t]

/-- Parameter t1's block is its array as one row. -/
theorem blk4 (c : Dev nD) (t : Fin cfg0.N) (l : Fin 64) :
    iblk m c 4 t (ix2 0 l) = m ((c : Thread nD τ).loc main_arg4) (ix1 l) := by
  rw [show iblk m c 4 t (ix2 0 l) = V m c main_v3 (((cfg0.win 4).blk t).view.emb (ix2 0 l)) from rfl, entry4]
  pointwise
  blk_ext [place4 t]

/-- Parameter W1b's block is its array. -/
theorem blk5 (c : Dev nD) (t : Fin cfg0.N) (k : Fin 64) (l : Fin 32) :
    iblk m c 5 t (ix2 k l) = m ((c : Thread nD τ).loc main_arg5) (ix2 k l) := by
  blk_ext! [iblk, V, place5 t]

/-- Parameter b1b's block is its array as one row. -/
theorem blk6 (c : Dev nD) (t : Fin cfg0.N) (l : Fin 32) :
    iblk m c 6 t (ix2 0 l) = m ((c : Thread nD τ).loc main_arg6) (ix1 l) := by
  rw [show iblk m c 6 t (ix2 0 l) = V m c main_v4 (((cfg0.win 6).blk t).view.emb (ix2 0 l)) from rfl, entry6]
  pointwise
  blk_ext [place6 t]

/-- Parameter W2a's block is its array. -/
theorem blk7 (c : Dev nD) (t : Fin cfg0.N) (k : Fin 64) (l : Fin 32) :
    iblk m c 7 t (ix2 k l) = m ((c : Thread nD τ).loc main_arg7) (ix2 k l) := by
  blk_ext! [iblk, V, place7 t]

/-- Parameter b2a's block is its array as one row. -/
theorem blk8 (c : Dev nD) (t : Fin cfg0.N) (l : Fin 32) :
    iblk m c 8 t (ix2 0 l) = m ((c : Thread nD τ).loc main_arg8) (ix1 l) := by
  rw [show iblk m c 8 t (ix2 0 l) = V m c main_v5 (((cfg0.win 8).blk t).view.emb (ix2 0 l)) from rfl, entry8]
  pointwise
  blk_ext [place8 t]

/-- Parameter g2's block is its array as one row. -/
theorem blk9 (c : Dev nD) (t : Fin cfg0.N) (l : Fin 32) :
    iblk m c 9 t (ix2 0 l) = m ((c : Thread nD τ).loc main_arg9) (ix1 l) := by
  rw [show iblk m c 9 t (ix2 0 l) = V m c main_v6 (((cfg0.win 9).blk t).view.emb (ix2 0 l)) from rfl, entry9]
  pointwise
  blk_ext [place9 t]

/-- Parameter t2's block is its array as one row. -/
theorem blk10 (c : Dev nD) (t : Fin cfg0.N) (l : Fin 32) :
    iblk m c 10 t (ix2 0 l) = m ((c : Thread nD τ).loc main_arg10) (ix1 l) := by
  rw [show iblk m c 10 t (ix2 0 l) = V m c main_v7 (((cfg0.win 10).blk t).view.emb (ix2 0 l)) from rfl, entry10]
  pointwise
  blk_ext [place10 t]

/-- Parameter W2b's block is its array. -/
theorem blk11 (c : Dev nD) (t : Fin cfg0.N) (k : Fin 32) (l : Fin 32) :
    iblk m c 11 t (ix2 k l) = m ((c : Thread nD τ).loc main_arg11) (ix2 k l) := by
  blk_ext! [iblk, V, place11 t]

/-- Parameter b2b's block is its array as one row. -/
theorem blk12 (c : Dev nD) (t : Fin cfg0.N) (l : Fin 32) :
    iblk m c 12 t (ix2 0 l) = m ((c : Thread nD τ).loc main_arg12) (ix1 l) := by
  rw [show iblk m c 12 t (ix2 0 l) = V m c main_v8 (((cfg0.win 12).blk t).view.emb (ix2 0 l)) from rfl, entry12]
  pointwise
  blk_ext [place12 t]

/-- Parameter W3a's block is its array. -/
theorem blk13 (c : Dev nD) (t : Fin cfg0.N) (k : Fin 64) (l : Fin 32) :
    iblk m c 13 t (ix2 k l) = m ((c : Thread nD τ).loc main_arg13) (ix2 k l) := by
  blk_ext! [iblk, V, place13 t]

/-- Parameter b3a's block is its array as one row. -/
theorem blk14 (c : Dev nD) (t : Fin cfg0.N) (l : Fin 32) :
    iblk m c 14 t (ix2 0 l) = m ((c : Thread nD τ).loc main_arg14) (ix1 l) := by
  rw [show iblk m c 14 t (ix2 0 l) = V m c main_v9 (((cfg0.win 14).blk t).view.emb (ix2 0 l)) from rfl, entry14]
  pointwise
  blk_ext [place14 t]

/-- Parameter g3's block is its array as one row. -/
theorem blk15 (c : Dev nD) (t : Fin cfg0.N) (l : Fin 32) :
    iblk m c 15 t (ix2 0 l) = m ((c : Thread nD τ).loc main_arg15) (ix1 l) := by
  rw [show iblk m c 15 t (ix2 0 l) = V m c main_v10 (((cfg0.win 15).blk t).view.emb (ix2 0 l)) from rfl, entry15]
  pointwise
  blk_ext [place15 t]

/-- Parameter t3's block is its array as one row. -/
theorem blk16 (c : Dev nD) (t : Fin cfg0.N) (l : Fin 32) :
    iblk m c 16 t (ix2 0 l) = m ((c : Thread nD τ).loc main_arg16) (ix1 l) := by
  rw [show iblk m c 16 t (ix2 0 l) = V m c main_v11 (((cfg0.win 16).blk t).view.emb (ix2 0 l)) from rfl, entry16]
  pointwise
  blk_ext [place16 t]

/-- Parameter W3b's block is its array. -/
theorem blk17 (c : Dev nD) (t : Fin cfg0.N) (k : Fin 32) (l : Fin 32) :
    iblk m c 17 t (ix2 k l) = m ((c : Thread nD τ).loc main_arg17) (ix2 k l) := by
  blk_ext! [iblk, V, place17 t]

/-- Parameter b3b's block is its array as one row. -/
theorem blk18 (c : Dev nD) (t : Fin cfg0.N) (l : Fin 32) :
    iblk m c 18 t (ix2 0 l) = m ((c : Thread nD τ).loc main_arg18) (ix1 l) := by
  rw [show iblk m c 18 t (ix2 0 l) = V m c main_v12 (((cfg0.win 18).blk t).view.emb (ix2 0 l)) from rfl, entry18]
  pointwise
  blk_ext [place18 t]

/-- Parameter Wp1's block is its array. -/
theorem blk19 (c : Dev nD) (t : Fin cfg0.N) (k : Fin 32) (l : Fin 16) :
    iblk m c 19 t (ix2 k l) = m ((c : Thread nD τ).loc main_arg19) (ix2 k l) := by
  blk_ext! [iblk, V, place19 t]

/-- Parameter bp1's block is its array as one row. -/
theorem blk20 (c : Dev nD) (t : Fin cfg0.N) (l : Fin 16) :
    iblk m c 20 t (ix2 0 l) = m ((c : Thread nD τ).loc main_arg20) (ix1 l) := by
  rw [show iblk m c 20 t (ix2 0 l) = V m c main_v13 (((cfg0.win 20).blk t).view.emb (ix2 0 l)) from rfl, entry20]
  pointwise
  blk_ext [place20 t]

/-- Parameter Wp2's block is its array. -/
theorem blk21 (c : Dev nD) (t : Fin cfg0.N) (k : Fin 16) (l : Fin 16) :
    iblk m c 21 t (ix2 k l) = m ((c : Thread nD τ).loc main_arg21) (ix2 k l) := by
  blk_ext! [iblk, V, place21 t]

/-- Parameter bp2's block is its array as one row. -/
theorem blk22 (c : Dev nD) (t : Fin cfg0.N) (l : Fin 16) :
    iblk m c 22 t (ix2 0 l) = m ((c : Thread nD τ).loc main_arg22) (ix1 l) := by
  rw [show iblk m c 22 t (ix2 0 l) = V m c main_v14 (((cfg0.win 22).blk t).view.emb (ix2 0 l)) from rfl, entry22]
  pointwise
  blk_ext [place22 t]

/-- Parameter Wq1's block is its array. -/
theorem blk23 (c : Dev nD) (t : Fin cfg0.N) (k : Fin 16) (l : Fin 16) :
    iblk m c 23 t (ix2 k l) = m ((c : Thread nD τ).loc main_arg23) (ix2 k l) := by
  blk_ext! [iblk, V, place23 t]

/-- Parameter bq1's block is its array as one row. -/
theorem blk24 (c : Dev nD) (t : Fin cfg0.N) (l : Fin 16) :
    iblk m c 24 t (ix2 0 l) = m ((c : Thread nD τ).loc main_arg24) (ix1 l) := by
  rw [show iblk m c 24 t (ix2 0 l) = V m c main_v15 (((cfg0.win 24).blk t).view.emb (ix2 0 l)) from rfl, entry24]
  pointwise
  blk_ext [place24 t]

/-- Parameter Wq2's block is its array. -/
theorem blk25 (c : Dev nD) (t : Fin cfg0.N) (k : Fin 16) (l : Fin 1) :
    iblk m c 25 t (ix2 k l) = m ((c : Thread nD τ).loc main_arg25) (ix2 k l) := by
  blk_ext! [iblk, V, place25 t]

/-- Parameter bq2's block is its array as one row. -/
theorem blk26 (c : Dev nD) (t : Fin cfg0.N) (l : Fin 1) :
    iblk m c 26 t (ix2 0 l) = m ((c : Thread nD τ).loc main_arg26) (ix1 l) := by
  rw [show iblk m c 26 t (ix2 0 l) = V m c main_v16 (((cfg0.win 26).blk t).view.emb (ix2 0 l)) from rfl, entry26]
  pointwise
  blk_ext [place26 t]

end Cert.KernelIdeal.Result

end
-- ==== Proof.KernelResult.lean ====
/- The kernel's result: the blocks tile the array of values, and the last line of the program gives the array its
   final shape. -/
module

public import proofs.«01_k».proof.Proof.KernelValue

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.KernelIdeal.Run Cert.KernelIdeal.Stage Cert.Spec

variable (m : (ℓ : Loc nD τ sig) → Buf (Elt Ideal) ℓ)

/-- The row of 256 graphs holds each graph of the argument. -/
theorem shape_graph (a : FVec Ideal S8x32x32x96 .f32) (e : Fin 256) (i : Fin 32) (k : Fin 96) :
    shapeCast S256x32x96 a shapeCasts_S8x32x32x96_S256x32x96 (ix3 e i k) = graph a e i k := by
  unfold graph
  pointwise

/-- Graph `g` of point `t`'s block is graph `8 t + g` of the argument. -/
theorem graph_at (c : Dev nD) (t : Fin cfg0.N) (g : Fin 8) (i : Fin 32) (k : Fin 96) (h : t.val * 8 + g.val < 256) :
    iblk m c 0 t (ix3 g i k) = graph (m ((c : Thread nD τ).loc main_arg0)) ⟨t.val * 8 + g.val, h⟩ i k := by
  have he : ((cfg0.win 0).blk t).view.emb (ix3 g i k) = ix3 (⟨t.val * 8 + g.val, h⟩ : Fin 256) i k := by
    blk_ext [places t]
  rw [show iblk m c 0 t (ix3 g i k) = V m c main_v0 (((cfg0.win 0).blk t).view.emb (ix3 g i k)) from rfl, entry0, he]
  exact shape_graph _ _ i k

/-- The parameters of the run. -/
def params (c : Dev nD) : Params := ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

/-- The blocks of every grid point hold the parameters of the run. -/
theorem params_at (c : Dev nD) (t : Fin cfg0.N) :
    blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) = params m c := by
  unfold blockParams params ofArrays
  rw [Params.mk.injEq]
  exact ⟨funext fun k => funext fun l => blk1 m c t k l,
    funext fun l => blk2 m c t l,
    funext fun l => blk3 m c t l,
    funext fun l => blk4 m c t l,
    funext fun k => funext fun l => blk5 m c t k l,
    funext fun l => blk6 m c t l,
    funext fun k => funext fun l => blk7 m c t k l,
    funext fun l => blk8 m c t l,
    funext fun l => blk9 m c t l,
    funext fun l => blk10 m c t l,
    funext fun k => funext fun l => blk11 m c t k l,
    funext fun l => blk12 m c t l,
    funext fun k => funext fun l => blk13 m c t k l,
    funext fun l => blk14 m c t l,
    funext fun l => blk15 m c t l,
    funext fun l => blk16 m c t l,
    funext fun k => funext fun l => blk17 m c t k l,
    funext fun l => blk18 m c t l,
    funext fun k => funext fun l => blk19 m c t k l,
    funext fun l => blk20 m c t l,
    funext fun k => funext fun l => blk21 m c t k l,
    funext fun l => blk22 m c t l,
    funext fun k => funext fun l => blk23 m c t k l,
    funext fun l => blk24 m c t l,
    funext fun k => blk25 m c t k 0,
    blk26 m c t 0⟩

/-- The array of values after the run: the network's value on every graph. -/
theorem final (c : Dev nD) : (dats m 0 c).arrAt 27 (cfgs 0).N
    = fun j : S256x1.Idx => critic (params m c) (graph (m ((c : Thread nD τ).loc main_arg0)) (j 0)) := by
  refine (dats m 0 c).arrAt_eq_of_covers 27 _ (by decide +kernel) fun t _ y => ?_
  blk_simp
  rw [after0_27]
  frame_out
  have hy1 : y = ix2 (y 0) 0 := by
    funext a
    match a with
    | ⟨0, _⟩ => rfl
    | ⟨1, _⟩ => exact Subsingleton.elim (α := Fin 1) _ _
  rw [hy1]
  refine (block_at _ _ _ _ _ _ _ _ _ _ _ _ _ _ _ _ _ _ _ _ _ _ _ _ _ _ _ (y 0)).trans ?_
  rw [params_at]
  congr 1
  funext i k
  have hb : (y 0).val < 8 := (y 0).isLt
  refine (graph_at m c t (y 0) i k (by have := (places t).2.2; omega)).trans ?_
  refine congrArg (fun e => graph (m ((c : Thread nD τ).loc main_arg0)) e i k) (Fin.ext ?_)
  blk_simp [places t]

/-- The result array: the network's value on the graph of each row. -/
theorem result (c : Dev nD) :
    Pipeline.afterTail₀ cfgs (dats m) 0 (V0 m) [hostOps1] c main_v18
      = shapeCast S8x32x1 (fun j : S256x1.Idx => critic (params m c) (graph (m ((c : Thread nD τ).loc main_arg0)) (j 0)))
          shapeCasts_S256x1_S8x32x1 := by
  have harr : Pipeline.withArrays (cfgs 0).spec c (V0 m c) (fun w => (dats m 0 c).arrAt w (cfgs 0).N)
      (Proc.devRef .tc main_v17)
      = fun j : S256x1.Idx => critic (params m c) (graph (m ((c : Thread nD τ).loc main_arg0)) (j 0)) :=
    (Pipeline.withArrays_arr (cfgs 0).spec (by decide +kernel) c (V0 m c) _ 27).trans (final m c)
  unfold Pipeline.afterTail₀
  simp only [List.flatten_cons, List.flatten_nil, List.append_nil, hostOps1]
  after_results_simp
  rw [harr]
  rfl

/-- The run: the result array holds the network's values, and the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18)
          = shapeCast S8x32x1 (fun j : S256x1.Idx => critic (params m c) (graph (m ((c : Thread nD τ).loc main_arg0)) (j 0)))
              shapeCasts_S256x1_S8x32x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono
    (fun _ h c => ⟨((h.1 c).2 main_v18 (Pipeline.mem_restRefs_of main_v18 (by decide) (by decide))).trans (result m c), h.2 c⟩)
    (θ_run_and (run_main m ρ) (unchanged m ρ))

end Cert.KernelIdeal.Result

end
-- ==== Proof.ReferenceStages.lean ====
/- The reference's arithmetic in named stages on the whole arrays of 256 graphs, and each stage read at an index: it is
   the function of `Spec` of the same name at the graph, the node and the feature that the index names. -/
module

public import proofs.«01_k».proof.Proof.Spec
public import proofs.«01_k».proof.Proof.Gen.ReferenceIdeal.Run

@[expose] public section

set_option maxRecDepth 16384

noncomputable section

namespace Cert.ReferenceIdeal.Stage

open Idealize.ShloMosaic Idealize.ShloMosaic.TcCoe Cert.ReferenceIdeal Cert.ReferenceIdeal.Gen Cert.ReferenceIdeal.Value Cert.Spec

/-- Every node repeated along the axis of its neighbours, 96 features. -/
def rows96 (x : FVec Ideal S256x32x96 .f32) : FVec Ideal S256x32x32x96 .f32 :=
  broadcastInDim S256x32x32x96 ![0, 1, 2, 3] bcast_S256x32x1x96_S256x32x32x96_0_1_2_3 (broadcastInDim S256x32x1x96 ![0, 1, 3] bcast_S256x32x96_S256x32x1x96_0_1_3 x)

/-- The same, 32 features. -/
def rows32 (x : FVec Ideal S256x32x32 .f32) : FVec Ideal S256x32x32x32 .f32 :=
  broadcastInDim S256x32x32x32 ![0, 1, 2, 3] bcast_S256x32x1x32_S256x32x32x32_0_1_2_3 (broadcastInDim S256x32x1x32 ![0, 1, 3] bcast_S256x32x32_S256x32x1x32_0_1_3 x)

/-- The first linear map on all edges. -/
def lin1 (x : FVec Ideal S256x32x96 .f32) (W : FVec Ideal S192x64 .f32) (b : FVec Ideal S64 .f32) : FVec Ideal S256x32x32x64 .f32 :=
  addf (Host.dotGeneral dot_S256x32x32x192_S192x64_S256x32x32x64_3_0_012_1_n_n none (concatenate S256x32x32x192 3 [⟨S256x32x32x96, (rows96 x)⟩, ⟨S256x32x32x96, (subf (broadcastInDim S256x32x32x96 ![0, 1, 2, 3] bcast_S256x1x32x96_S256x32x32x96_0_1_2_3 (broadcastInDim S256x1x32x96 ![0, 2, 3] bcast_S256x32x96_S256x1x32x96_0_2_3 x)) (rows96 x))⟩] concatenates_S256x32x32x96_S256x32x32x96_S256x32x32x192_d3) W) (broadcastInDim S256x32x32x64 ![0, 1, 2, 3] bcast_S1x1x1x64_S256x32x32x64_0_1_2_3 (broadcastInDim S1x1x1x64 ![3] bcast_S64_S1x1x1x64_3 b))

/-- The second and third convolutions' linear map on all edges. -/
def lin2 (x : FVec Ideal S256x32x32 .f32) (W : FVec Ideal S64x32 .f32) (b : FVec Ideal S32 .f32) : FVec Ideal S256x32x32x32 .f32 :=
  addf (Host.dotGeneral dot_S256x32x32x64_S64x32_S256x32x32x32_3_0_012_1_n_n none (concatenate S256x32x32x64 3 [⟨S256x32x32x32, (rows32 x)⟩, ⟨S256x32x32x32, (subf (broadcastInDim S256x32x32x32 ![0, 1, 2, 3] bcast_S256x1x32x32_S256x32x32x32_0_1_2_3 (broadcastInDim S256x1x32x32 ![0, 2, 3] bcast_S256x32x32_S256x1x32x32_0_2_3 x)) (rows32 x))⟩] concatenates_S256x32x32x32_S256x32x32x32_S256x32x32x64_d3) W) (broadcastInDim S256x32x32x32 ![0, 1, 2, 3] bcast_S1x1x1x32_S256x32x32x32_0_1_2_3 (broadcastInDim S1x1x1x32 ![3] bcast_S32_S1x1x1x32_3 b))

/-- Rows of 64 less their means. -/
def centred64 (h : FVec Ideal S256x32x32x64 .f32) : FVec Ideal S256x32x32x64 .f32 :=
  subf h (broadcastInDim S256x32x32x64 ![0, 1, 2, 3] bcast_S256x32x32x1_S256x32x32x64_0_1_2_3 (Host.divf (broadcastInDim S256x32x32x1 ![0, 1, 2] bcast_S256x32x32_S256x32x32x1_0_1_2 (Host.reduceAdd h (constant S_ .f32 0x00000000#32) reducesTo_S256x32x32x64_S256x32x32_d3 h_S_)) (broadcastInDim S256x32x32x1 ![] bcast_S_S256x32x32x1 (constant S_ .f32 0x42800000#32))))

/-- Rows of 32 less their means. -/
def centred32 (h : FVec Ideal S256x32x32x32 .f32) : FVec Ideal S256x32x32x32 .f32 :=
  subf h (broadcastInDim S256x32x32x32 ![0, 1, 2, 3] bcast_S256x32x32x1_S256x32x32x32_0_1_2_3 (Host.divf (broadcastInDim S256x32x32x1 ![0, 1, 2] bcast_S256x32x32_S256x32x32x1_0_1_2 (Host.reduceAdd h (constant S_ .f32 0x00000000#32) reducesTo_S256x32x32x32_S256x32x32_d3 h_S_)) (broadcastInDim S256x32x32x1 ![] bcast_S_S256x32x32x1 (constant S_ .f32 0x42000000#32))))

/-- The divisor of a variance over 64 entries: 64 less 0. -/
def count64 : FVec Ideal S_ .f32 :=
  subf (constant S_ .f32 0x42800000#32) (sitofp .f32 (constantI S_ 32 0#32))

/-- The divisor of a variance over 32 entries: 32 less 0. -/
def count32 : FVec Ideal S_ .f32 :=
  subf (constant S_ .f32 0x42000000#32) (sitofp .f32 (constantI S_ 32 0#32))

/-- The remaining part of a convolution with rows of 64: normalise, cut off, second linear map, mean over the neighbours. -/
def conv64 (h : FVec Ideal S256x32x32x64 .f32) (g t : FVec Ideal S64 .f32) (W : FVec Ideal S64x32 .f32) (b : FVec Ideal S32 .f32) : FVec Ideal S256x32x32 .f32 :=
  Host.divf (Host.reduceAdd (addf (Host.dotGeneral dot_S256x32x32x64_S64x32_S256x32x32x32_3_0_012_1_n_n none (maximumf (addf (mulf (Host.divf (subf h (broadcastInDim S256x32x32x64 ![0, 1, 2, 3] bcast_S256x32x32x1_S256x32x32x64_0_1_2_3 (Host.divf (broadcastInDim S256x32x32x1 ![0, 1, 2] bcast_S256x32x32_S256x32x32x1_0_1_2 (Host.reduceAdd h (constant S_ .f32 0x00000000#32) reducesTo_S256x32x32x64_S256x32x32_d3 h_S_)) (broadcastInDim S256x32x32x1 ![] bcast_S_S256x32x32x1 (constant S_ .f32 0x42800000#32))))) (broadcastInDim S256x32x32x64 ![0, 1, 2, 3] bcast_S256x32x32x1_S256x32x32x64_0_1_2_3 (Host.sqrt (addf (select (broadcastInDim S256x32x32x1 ![] bcast_S_S256x32x32x1 (cmpf .ogt count64 (constant S_ .f32 0x00000000#32))) (Host.divf (broadcastInDim S256x32x32x1 ![0, 1, 2] bcast_S256x32x32_S256x32x32x1_0_1_2 (Host.reduceAdd (mulf (centred64 h) (centred64 h)) (constant S_ .f32 0x00000000#32) reducesTo_S256x32x32x64_S256x32x32_d3 h_S_)) (broadcastInDim S256x32x32x1 ![] bcast_S_S256x32x32x1 count64)) (broadcastInDim S256x32x32x1 ![] bcast_S_S256x32x32x1 (id (constant S_ .f32 0x7FC00000#32)))) (broadcastInDim S256x32x32x1 ![] bcast_S_S256x32x32x1 (constant S_ .f32 0x3727C5AC#32)))))) (broadcastInDim S256x32x32x64 ![0, 1, 2, 3] bcast_S1x1x1x64_S256x32x32x64_0_1_2_3 (broadcastInDim S1x1x1x64 ![3] bcast_S64_S1x1x1x64_3 g))) (broadcastInDim S256x32x32x64 ![0, 1, 2, 3] bcast_S1x1x1x64_S256x32x32x64_0_1_2_3 (broadcastInDim S1x1x1x64 ![3] bcast_S64_S1x1x1x64_3 t))) (broadcastInDim S256x32x32x64 ![] bcast_S_S256x32x32x64 (constant S_ .f32 0x00000000#32))) W) (broadcastInDim S256x32x32x32 ![0, 1, 2, 3] bcast_S1x1x1x32_S256x32x32x32_0_1_2_3 (broadcastInDim S1x1x1x32 ![3] bcast_S32_S1x1x1x32_3 b))) (constant S_ .f32 0x00000000#32) reducesTo_S256x32x32x32_S256x32x32_d2 h_S_) (broadcastInDim S256x32x32 ![] bcast_S_S256x32x32 (constant S_ .f32 0x42000000#32))

/-- The same with rows of 32. -/
def conv32 (h : FVec Ideal S256x32x32x32 .f32) (g t : FVec Ideal S32 .f32) (W : FVec Ideal S32x32 .f32) (b : FVec Ideal S32 .f32) : FVec Ideal S256x32x32 .f32 :=
  Host.divf (Host.reduceAdd (addf (Host.dotGeneral dot_S256x32x32x32_S32x32_S256x32x32x32_3_0_012_1_n_n none (maximumf (addf (mulf (Host.divf (subf h (broadcastInDim S256x32x32x32 ![0, 1, 2, 3] bcast_S256x32x32x1_S256x32x32x32_0_1_2_3 (Host.divf (broadcastInDim S256x32x32x1 ![0, 1, 2] bcast_S256x32x32_S256x32x32x1_0_1_2 (Host.reduceAdd h (constant S_ .f32 0x00000000#32) reducesTo_S256x32x32x32_S256x32x32_d3 h_S_)) (broadcastInDim S256x32x32x1 ![] bcast_S_S256x32x32x1 (constant S_ .f32 0x42000000#32))))) (broadcastInDim S256x32x32x32 ![0, 1, 2, 3] bcast_S256x32x32x1_S256x32x32x32_0_1_2_3 (Host.sqrt (addf (select (broadcastInDim S256x32x32x1 ![] bcast_S_S256x32x32x1 (cmpf .ogt count32 (constant S_ .f32 0x00000000#32))) (Host.divf (broadcastInDim S256x32x32x1 ![0, 1, 2] bcast_S256x32x32_S256x32x32x1_0_1_2 (Host.reduceAdd (mulf (centred32 h) (centred32 h)) (constant S_ .f32 0x00000000#32) reducesTo_S256x32x32x32_S256x32x32_d3 h_S_)) (broadcastInDim S256x32x32x1 ![] bcast_S_S256x32x32x1 count32)) (broadcastInDim S256x32x32x1 ![] bcast_S_S256x32x32x1 (id (constant S_ .f32 0x7FC00000#32)))) (broadcastInDim S256x32x32x1 ![] bcast_S_S256x32x32x1 (constant S_ .f32 0x3727C5AC#32)))))) (broadcastInDim S256x32x32x32 ![0, 1, 2, 3] bcast_S1x1x1x32_S256x32x32x32_0_1_2_3 (broadcastInDim S1x1x1x32 ![3] bcast_S32_S1x1x1x32_3 g))) (broadcastInDim S256x32x32x32 ![0, 1, 2, 3] bcast_S1x1x1x32_S256x32x32x32_0_1_2_3 (broadcastInDim S1x1x1x32 ![3] bcast_S32_S1x1x1x32_3 t))) (broadcastInDim S256x32x32x32 ![] bcast_S_S256x32x32x32 (constant S_ .f32 0x00000000#32))) W) (broadcastInDim S256x32x32x32 ![0, 1, 2, 3] bcast_S1x1x1x32_S256x32x32x32_0_1_2_3 (broadcastInDim S1x1x1x32 ![3] bcast_S32_S1x1x1x32_3 b))) (constant S_ .f32 0x00000000#32) reducesTo_S256x32x32x32_S256x32x32_d2 h_S_) (broadcastInDim S256x32x32 ![] bcast_S_S256x32x32 (constant S_ .f32 0x42000000#32))

/-- Cutting off at 0. -/
def relu (x : FVec Ideal S256x32x32 .f32) : FVec Ideal S256x32x32 .f32 :=
  maximumf x (broadcastInDim S256x32x32 ![] bcast_S_S256x32x32 (constant S_ .f32 0x00000000#32))

/-- The two heads. -/
def heads (y : FVec Ideal S256x32x32 .f32) (W1 : FVec Ideal S32x16 .f32) (b1 : FVec Ideal S16 .f32) (W2 : FVec Ideal S16x16 .f32) (b2 : FVec Ideal S16 .f32) (W3 : FVec Ideal S16x16 .f32) (b3 : FVec Ideal S16 .f32) (W4 : FVec Ideal S16x1 .f32) (b4 : FVec Ideal S1 .f32) : FVec Ideal S256x1 .f32 :=
  addf (Host.dotGeneral dot_S256x16_S16x1_S256x1_1_0_0_1_n_n none (maximumf (addf (Host.dotGeneral dot_S256x16_S16x16_S256x16_1_0_0_1_n_n none (Host.divf (Host.reduceAdd (maximumf (addf (Host.dotGeneral dot_S256x32x16_S16x16_S256x32x16_2_0_01_1_n_n none (maximumf (addf (Host.dotGeneral dot_S256x32x32_S32x16_S256x32x16_2_0_01_1_n_n none y W1) (broadcastInDim S256x32x16 ![0, 1, 2] bcast_S1x1x16_S256x32x16_0_1_2 (broadcastInDim S1x1x16 ![2] bcast_S16_S1x1x16_2 b1))) (broadcastInDim S256x32x16 ![] bcast_S_S256x32x16 (constant S_ .f32 0x00000000#32))) W2) (broadcastInDim S256x32x16 ![0, 1, 2] bcast_S1x1x16_S256x32x16_0_1_2 (broadcastInDim S1x1x16 ![2] bcast_S16_S1x1x16_2 b2))) (broadcastInDim S256x32x16 ![] bcast_S_S256x32x16 (constant S_ .f32 0x00000000#32))) (constant S_ .f32 0x00000000#32) reducesTo_S256x32x16_S256x16_d1 h_S_) (broadcastInDim S256x16 ![] bcast_S_S256x16 (constant S_ .f32 0x42000000#32))) W3) (broadcastInDim S256x16 ![0, 1] bcast_S1x16_S256x16_0_1 (broadcastInDim S1x16 ![1] bcast_S16_S1x16_1 b3))) (broadcastInDim S256x16 ![] bcast_S_S256x16 (constant S_ .f32 0x00000000#32))) W4) (broadcastInDim S256x1 ![0, 1] bcast_S1x1_S256x1_0_1 (broadcastInDim S1x1 ![1] bcast_S1_S1x1_1 b4))

/-! ## The stages at an index -/

theorem lin1_at (x : FVec Ideal S256x32x96 .f32) (W : FVec Ideal S192x64 .f32) (b : FVec Ideal S64 .f32) (e : Fin 256)
    (i j : Fin 32) (c : Fin 64) :
    lin1 x W b (ix4 e i j c) = lin96 (fun a k => x (ix3 e a k)) (fun k c => W (ix2 k c)) (fun c => b (ix1 c)) i j c := by
  pointwise [lin1, rows96]
  rfl

theorem lin2_at (x : FVec Ideal S256x32x32 .f32) (W : FVec Ideal S64x32 .f32) (b : FVec Ideal S32 .f32) (e : Fin 256)
    (i j c : Fin 32) :
    lin2 x W b (ix4 e i j c) = lin32 (fun a k => x (ix3 e a k)) (fun k c => W (ix2 k c)) (fun c => b (ix1 c)) i j c := by
  pointwise [lin2, rows32]
  rfl

/-- The word of 64 denotes 64. -/
theorem c64_eq : c64 = ((64 : ℝ) : EReal) := by
  simp [c64, Ideal.ofBits, Ideal.ieee, -EReal.coe_mul]; norm_num

/-- The word of 32 denotes 32. -/
theorem c32_eq : c32 = ((32 : ℝ) : EReal) := by
  simp [c32, Ideal.ofBits, Ideal.ieee, -EReal.coe_mul]; norm_num

/-- The integer 0 as a float. -/
theorem sitofp_zero : FloatOps.sitofp (F := Ideal) .f32 (0#32) = (0 : EReal) := by
  simp [FloatOps.sitofp]

theorem c64_pos : 0 < c64 := by rw [c64_eq]; exact_mod_cast (by norm_num : (0 : ℝ) < 64)

theorem c32_pos : 0 < c32 := by rw [c32_eq]; exact_mod_cast (by norm_num : (0 : ℝ) < 32)

theorem conv64_at (h : FVec Ideal S256x32x32x64 .f32) (g t : FVec Ideal S64 .f32) (W : FVec Ideal S64x32 .f32)
    (b : FVec Ideal S32 .f32) (e : Fin 256) (i c : Fin 32) :
    conv64 h g t W b (ix3 e i c) = conv c64 (fun j k => h (ix4 e i j k)) (fun c => g (ix1 c)) (fun c => t (ix1 c))
      (fun k c => W (ix2 k c)) (fun c => b (ix1 c)) c := by
  pointwise [conv64, centred64, count64]
  simp only [sitofp_zero, sub_zero, if_pos c64_pos]
  rfl

theorem conv32_at (h : FVec Ideal S256x32x32x32 .f32) (g t : FVec Ideal S32 .f32) (W : FVec Ideal S32x32 .f32)
    (b : FVec Ideal S32 .f32) (e : Fin 256) (i c : Fin 32) :
    conv32 h g t W b (ix3 e i c) = conv c32 (fun j k => h (ix4 e i j k)) (fun c => g (ix1 c)) (fun c => t (ix1 c))
      (fun k c => W (ix2 k c)) (fun c => b (ix1 c)) c := by
  pointwise [conv32, centred32, count32]
  simp only [sitofp_zero, sub_zero, if_pos c32_pos]
  rfl

theorem relu_at (x : FVec Ideal S256x32x32 .f32) (e : Fin 256) (i c : Fin 32) :
    relu x (ix3 e i c) = max (x (ix3 e i c)) 0 := by
  pointwise [relu]

theorem heads_at (y : FVec Ideal S256x32x32 .f32) (W1 : FVec Ideal S32x16 .f32) (b1 : FVec Ideal S16 .f32)
    (W2 : FVec Ideal S16x16 .f32) (b2 : FVec Ideal S16 .f32) (W3 : FVec Ideal S16x16 .f32) (b3 : FVec Ideal S16 .f32)
    (W4 : FVec Ideal S16x1 .f32) (b4 : FVec Ideal S1 .f32) (p : Params)
    (hp : p.Wp1 = (fun k c => W1 (ix2 k c)) ∧ p.bp1 = (fun c => b1 (ix1 c)) ∧ p.Wp2 = (fun k c => W2 (ix2 k c))
      ∧ p.bp2 = (fun c => b2 (ix1 c)) ∧ p.Wq1 = (fun k c => W3 (ix2 k c)) ∧ p.bq1 = (fun c => b3 (ix1 c))
      ∧ p.Wq2 = (fun k => W4 (ix2 k 0)) ∧ p.bq2 = b4 (ix1 0)) (e : Fin 256) :
    heads y W1 b1 W2 b2 W3 b3 W4 b4 (ix2 e 0) = head p (fun i c => y (ix3 e i c)) := by
  obtain ⟨h1, h2, h3, h4, h5, h6, h7, h8⟩ := hp
  simp only [head, phi, dense, mean, h1, h2, h3, h4, h5, h6, h7, h8]
  pointwise [heads]

end Cert.ReferenceIdeal.Stage

end
-- ==== Proof.ReferenceResult.lean ====
/- The reference's result: the stages composed are the network's value on every graph, and the last line gives the
   array of values its final shape. -/
module

public import proofs.«01_k».proof.Proof.ReferenceStages

@[expose] public section

set_option maxRecDepth 16384

noncomputable section

namespace Cert.ReferenceIdeal.Result

open Idealize.ShloMosaic Idealize.ShloMosaic.TcCoe Idealize.SL.Sem Cert.ReferenceIdeal Cert.ReferenceIdeal.Gen
open Cert.ReferenceIdeal.Value Cert.ReferenceIdeal.Stage Cert.Spec
open Idealize.ShloMosaic.StableHlo (launchContents)

variable (V : Valuation τ sig (Elt Ideal))

/-- The parameters of the run. -/
def params : Params := ofArrays (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26))

/-- The row of 256 graphs holds each graph of the argument. -/
theorem nodes0_at (e : Fin 256) (i : Fin 32) (k : Fin 96) :
    (show FVec Ideal S256x32x96 .f32 from res_main_v0 V) (ix3 e i k) = graph (V (Proc.devRef .tc main_arg0)) e i k := by
  unfold res_main_v0 graph
  pointwise

/-- The first convolution's linear map. -/
theorem edges1 : res_main_v10 V = lin1 (res_main_v0 V) (V (Proc.devRef .tc main_arg1)) (V (Proc.devRef .tc main_arg2)) := rfl

/-- The nodes after the first convolution. -/
theorem nodes1 : res_main_v37 V = relu (conv64 (res_main_v10 V) (V (Proc.devRef .tc main_arg3)) (V (Proc.devRef .tc main_arg4)) (V (Proc.devRef .tc main_arg5)) (V (Proc.devRef .tc main_arg6))) := rfl

/-- The second convolution's linear map. -/
theorem edges2 : res_main_v47 V = lin2 (res_main_v37 V) (V (Proc.devRef .tc main_arg7)) (V (Proc.devRef .tc main_arg8)) := rfl

/-- The nodes after the second convolution. -/
theorem nodes2 : res_main_v74 V = relu (conv32 (res_main_v47 V) (V (Proc.devRef .tc main_arg9)) (V (Proc.devRef .tc main_arg10)) (V (Proc.devRef .tc main_arg11)) (V (Proc.devRef .tc main_arg12))) := rfl

/-- The third convolution's linear map. -/
theorem edges3 : res_main_v84 V = lin2 (res_main_v74 V) (V (Proc.devRef .tc main_arg13)) (V (Proc.devRef .tc main_arg14)) := rfl

/-- The nodes after the first convolution, at an index. -/
theorem nodes1_at (e : Fin 256) (i c : Fin 32) :
    (show FVec Ideal S256x32x32 .f32 from res_main_v37 V) (ix3 e i c) = node1 (params V) (graph (V (Proc.devRef .tc main_arg0)) e) i c := by
  rw [nodes1, edges1]
  refine (relu_at _ e i c).trans ?_
  rw [conv64_at]
  simp only [lin1_at, nodes0_at V]
  rfl

/-- The nodes after the second convolution, at an index. -/
theorem nodes2_at (e : Fin 256) (i c : Fin 32) :
    (show FVec Ideal S256x32x32 .f32 from res_main_v74 V) (ix3 e i c) = node2 (params V) (graph (V (Proc.devRef .tc main_arg0)) e) i c := by
  rw [nodes2, edges2]
  refine (relu_at _ e i c).trans ?_
  rw [conv32_at]
  simp only [lin2_at, nodes1_at V]
  rfl

/-- The nodes after the third convolution. -/
def nodes3 : FVec Ideal S256x32x32 .f32 :=
  conv32 (res_main_v84 V) (V (Proc.devRef .tc main_arg15)) (V (Proc.devRef .tc main_arg16)) (V (Proc.devRef .tc main_arg17)) (V (Proc.devRef .tc main_arg18))

/-- The nodes after the third convolution, at an index. -/
theorem nodes3_at (e : Fin 256) (i c : Fin 32) :
    nodes3 V (ix3 e i c) = node3 (params V) (graph (V (Proc.devRef .tc main_arg0)) e) i c := by
  unfold nodes3
  rw [edges3, conv32_at]
  simp only [lin2_at, nodes2_at V]
  rfl

/-- The value of one graph. -/
theorem value_at (e : Fin 256) :
    heads (nodes3 V) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (ix2 e 0)
      = critic (params V) (graph (V (Proc.devRef .tc main_arg0)) e) := by
  have h := heads_at (nodes3 V) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (params V)
    ⟨rfl, rfl, rfl, rfl, rfl, rfl, rfl, rfl⟩ e
  rw [h]
  exact congrArg (head (params V)) (funext fun i => funext fun c => nodes3_at V e i c)

/-- The array of values: the network's value on every graph. -/
theorem values : heads (nodes3 V) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26))
    = fun j : S256x1.Idx => critic (params V) (graph (V (Proc.devRef .tc main_arg0)) (j 0)) := by
  funext y
  have hy : y = ix2 (y 0) 0 := by
    funext a
    match a with
    | ⟨0, _⟩ => rfl
    | ⟨1, _⟩ => exact Subsingleton.elim (α := Fin 1) _ _
  exact (congrArg (heads (nodes3 V) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26))) hy).trans (value_at V (y 0))

variable (m : (ℓ : Loc nD τ sig) → Buf (Elt Ideal) ℓ)

/-- The run: the result array holds the network's values, and the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v133)
          = shapeCast S8x32x1 (fun j : S256x1.Idx => critic (params (launchContents m c)) (graph (m ((c.tc : Thread nD τ).loc main_arg0)) (j 0)))
              shapeCasts_S256x1_S8x32x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono
    (fun _ h c => ⟨(h c).1.trans (congrArg (fun x => shapeCast S8x32x1 x shapeCasts_S256x1_S8x32x1) (values (launchContents m c))),
      (h c).2⟩)
    (Value.run m ρ)

end Cert.ReferenceIdeal.Result

end
-- ==== Proof.lean ====
/- The claims on the graph critic: both programs and the reference run to their end with their arguments unchanged and
   every counter at zero, and over the reals the kernel's result is the reference's, for all arguments. -/
module

public import proofs.«01_k».proof.Defs
public import proofs.«01_k».proof.Proof.KernelFrame
public import proofs.«01_k».proof.Proof.KernelResult
public import proofs.«01_k».proof.Proof.ReferenceResult

@[expose] public section

set_option maxRecDepth 16384

noncomputable section

namespace Cert.Proof

open Idealize.ShloMosaic Idealize.ShloMosaic.TcCoe Idealize.SL.Sem

/-- The kernel's program runs, its arguments end unchanged and every counter ends at zero. -/
theorem kernel_runs : Cert.quiescent_Kernel := fun m ρ _ => Cert.Kernel.Run.frame m ρ

/-- The same over the reals. -/
theorem ideal_runs : Cert.quiescent_KernelIdeal := fun m ρ _ => Cert.KernelIdeal.Run.frame m ρ

/-- The reference runs, its arguments end unchanged, and it has no counter. -/
theorem reference_runs : Cert.quiescent_ReferenceIdeal := fun m ρ _ =>
  (θ_run Cert.ReferenceIdeal.defs _ _).mono
    (fun r h => ⟨fun c => (h c).2, sem_eq_zero_of_no_sems (by decide) r.2⟩) (Cert.ReferenceIdeal.Result.run m ρ)

/-- Over the reals the kernel and the reference end with the same result. -/
theorem same_result : Cert.algebraic_KernelIdeal_ReferenceIdeal := by
  intro m g m' g' _ hagree
  refine ⟨_, Cert.KernelIdeal.Result.run m g, (θ_run Cert.ReferenceIdeal.defs _ _).mono ?_ (Cert.ReferenceIdeal.Result.run m' g')⟩
  intro r h c
  refine ⟨(h c).1.trans ?_, (h c).2⟩
  obtain ⟨e0, e1, e2, e3, e4, e5, e6, e7, e8, e9, e10, e11, e12, e13, e14, e15, e16, e17, e18, e19, e20, e21, e22, e23, e24, e25, e26⟩ := hagree c
  have hp : Cert.ReferenceIdeal.Result.params (StableHlo.launchContents m' c) = Cert.KernelIdeal.Result.params m c := by
    show Cert.Spec.ofArrays (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) = _
    rw [e1, e2, e3, e4, e5, e6, e7, e8, e9, e10, e11, e12, e13, e14, e15, e16, e17, e18, e19, e20, e21, e22, e23, e24, e25, e26]
    rfl
  rw [hp, e0]

theorem claim : Cert.Claim := ⟨Cert.Kernel.Gen.facts, Cert.KernelIdeal.Gen.facts, Cert.ReferenceIdeal.Gen.facts,
  kernel_runs, ideal_runs, reference_runs, trivial, same_result⟩

end Cert.Proof

end
